-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ties_agree [hPre_finite_and_ties_agree : Cert.Pre_finite_and_ties_agree.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ties_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ties_agree [hPre_finite_and_ties_agree : Cert.Pre_finite_and_ties_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ties_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ties_agree [hKernelIdeal : Cert.KernelIdeal.Facts] [hPre_finite_and_ties_agree : Cert.Pre_finite_and_ties_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ties_agree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ties_agree [hReferenceIdeal : Cert.ReferenceIdeal.Facts] [hPre_finite_and_ties_agree : Cert.Pre_finite_and_ties_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ties_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_ties_agree [hKernelIdeal : Cert.KernelIdeal.Facts] [hReferenceIdeal : Cert.ReferenceIdeal.Facts] [hPre_finite_and_ties_agree : Cert.Pre_finite_and_ties_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ties_agree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_ties_agree : Cert.Pre_finite_and_ties_agree.Facts),
    quiescent_Kernel (hKernel := hKernel)
    ∧ quiescent_KernelIdeal (hKernelIdeal := hKernelIdeal)
    ∧ quiescent_KernelIdeal_pre_finite_and_ties_agree (hKernelIdeal := hKernelIdeal) (hPre_finite_and_ties_agree := hPre_finite_and_ties_agree)
    ∧ quiescent_ReferenceIdeal (hReferenceIdeal := hReferenceIdeal)
    ∧ quiescent_ReferenceIdeal_pre_finite_and_ties_agree (hReferenceIdeal := hReferenceIdeal) (hPre_finite_and_ties_agree := hPre_finite_and_ties_agree)
    ∧ preserves_Kernel_KernelIdeal
    ∧ algebraic_KernelIdeal_ReferenceIdeal_pre_finite_and_ties_agree (hKernelIdeal := hKernelIdeal) (hReferenceIdeal := hReferenceIdeal) (hPre_finite_and_ties_agree := hPre_finite_and_ties_agree)
-- ==== Pre_finite_and_ties_agree.lean ====
abbrev S65536 : Shape := ⟨1, ![65536]⟩
abbrev S_ : Shape := ⟨0, ![]⟩
abbrev S65536x1 : Shape := ⟨2, ![65536, 1]⟩
abbrev S1x65536 : Shape := ⟨2, ![1, 65536]⟩
abbrev S65536x65536 : Shape := ⟨2, ![65536, 65536]⟩

class Facts : Prop where
  bcast_S_S65536 : S_.BroadcastsInDim S65536 (![] : Fin 0 → Fin S65536.rank)
  reducesTo_S65536_S_d0 : S65536.ReducesTo [0] S_
  h_S_ : 0 < S_.numel
  bcast_S65536_S65536x1_0 : S65536.BroadcastsInDim S65536x1 (![0] : Fin 1 → Fin S65536x1.rank)
  bcast_S65536_S1x65536_1 : S65536.BroadcastsInDim S1x65536 (![1] : Fin 1 → Fin S1x65536.rank)
  bcast_S65536x1_S65536x65536_0_1 : S65536x1.BroadcastsInDim S65536x65536 (![0, 1] : Fin 2 → Fin S65536x65536.rank)
  bcast_S1x65536_S65536x65536_0_1 : S1x65536.BroadcastsInDim S65536x65536 (![0, 1] : Fin 2 → Fin S65536x65536.rank)
  bcast_S_S65536x1 : S_.BroadcastsInDim S65536x1 (![] : Fin 0 → Fin S65536x1.rank)
  bcast_S_S1x65536 : S_.BroadcastsInDim S1x65536 (![] : Fin 0 → Fin S1x65536.rank)
  reducesTo_S65536x65536_S_d0_1 : S65536x65536.ReducesTo [0, 1] S_

variable [Facts]

def fn_part1 {F : FTy → Type} [FloatOps F] (main_arg1 : FVec F S65536 .f32) (main_v3 : IVec S_ 1) (main_v8 : IVec S65536x65536 1) (main_v13 : IVec S65536x65536 1) (main_v18 : IVec S65536x65536 1) (main_v19 : FVec F S65536x1 .f32) (main_v20 : FVec F S65536x1 .f32) : IVec S_ 1 :=
  let main_v21 : IVec S65536x1 1 := cmpf .oeq main_v19 main_v20
  let main_v22 : FVec F S1x65536 .f32 := broadcastInDim S1x65536 ![1] bcast_S65536_S1x65536_1 main_arg1
  let main_cst_1 : FVec F S_ .f32 := constant S_ .f32 0x00000000#32
  let main_v23 : FVec F S1x65536 .f32 := broadcastInDim S1x65536 ![] bcast_S_S1x65536 main_cst_1
  let main_v24 : IVec S1x65536 1 := cmpf .oeq main_v22 main_v23
  let main_v25 : IVec S65536x65536 1 := broadcastInDim S65536x65536 ![0, 1] bcast_S65536x1_S65536x65536_0_1 main_v21
  let main_v26 : IVec S65536x65536 1 := broadcastInDim S65536x65536 ![0, 1] bcast_S1x65536_S65536x65536_0_1 main_v24
  let main_v27 : IVec S65536x65536 1 := andi main_v25 main_v26
  let main_v28 : IVec S65536x65536 1 := andi main_v13 main_v18
  let main_v29 : IVec S65536x65536 1 := ori main_v8 main_v28
  let main_v30 : IVec S65536x65536 1 := ori main_v29 main_v27
  let main_c_2 : IVec S_ 1 := constantI S_ 1 1#1
  let main_v31 : IVec S_ 1 := (fun x v => Host.reduce IntOp.andi x v reducesTo_S65536x65536_S_d0_1 h_S_) main_v30 main_c_2
  let main_v32 : IVec S_ 1 := andi main_v3 main_v31
  main_v32

def fn {F : FTy → Type} [FloatOps F] (main_arg0 : FVec F S65536 .f32) (main_arg1 : FVec F S65536 .f32) (main_arg2 : FVec F S65536 .f32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S65536x1 .f32 := broadcastInDim S65536x1 ![0] bcast_S65536_S65536x1_0 main_arg2
  let main_v5 : FVec F S1x65536 .f32 := broadcastInDim S1x65536 ![1] bcast_S65536_S1x65536_1 main_arg2
  let main_v6 : FVec F S65536x65536 .f32 := broadcastInDim S65536x65536 ![0, 1] bcast_S65536x1_S65536x65536_0_1 main_v4
  let main_v7 : FVec F S65536x65536 .f32 := broadcastInDim S65536x65536 ![0, 1] bcast_S1x65536_S65536x65536_0_1 main_v5
  let main_v8 : IVec S65536x65536 1 := cmpf .une main_v6 main_v7
  let main_v9 : FVec F S65536x1 .f32 := broadcastInDim S65536x1 ![0] bcast_S65536_S65536x1_0 main_arg0
  let main_v10 : FVec F S1x65536 .f32 := broadcastInDim S1x65536 ![1] bcast_S65536_S1x65536_1 main_arg0
  let main_v11 : FVec F S65536x65536 .f32 := broadcastInDim S65536x65536 ![0, 1] bcast_S65536x1_S65536x65536_0_1 main_v9
  let main_v12 : FVec F S65536x65536 .f32 := broadcastInDim S65536x65536 ![0, 1] bcast_S1x65536_S65536x65536_0_1 main_v10
  let main_v13 : IVec S65536x65536 1 := cmpf .oeq main_v11 main_v12
  let main_v14 : FVec F S65536x1 .f32 := broadcastInDim S65536x1 ![0] bcast_S65536_S65536x1_0 main_arg1
  let main_v15 : FVec F S1x65536 .f32 := broadcastInDim S1x65536 ![1] bcast_S65536_S1x65536_1 main_arg1
  let main_v16 : FVec F S65536x65536 .f32 := broadcastInDim S65536x65536 ![0, 1] bcast_S65536x1_S65536x65536_0_1 main_v14
  let main_v17 : FVec F S65536x65536 .f32 := broadcastInDim S65536x65536 ![0, 1] bcast_S1x65536_S65536x65536_0_1 main_v15
  let main_v18 : IVec S65536x65536 1 := cmpf .oeq main_v16 main_v17
  let main_v19 : FVec F S65536x1 .f32 := broadcastInDim S65536x1 ![0] bcast_S65536_S65536x1_0 main_arg1
  let main_cst_0 : FVec F S_ .f32 := constant S_ .f32 0x00000000#32
  let main_v20 : FVec F S65536x1 .f32 := broadcastInDim S65536x1 ![] bcast_S_S65536x1 main_cst_0
  fn_part1 (F := F) main_arg1 main_v3 main_v8 main_v13 main_v18 main_v19 main_v20
-- ==== Kernel.lean ====
abbrev S65536 : Shape := ⟨1, ![65536]⟩
abbrev S512x128 : Shape := ⟨2, ![512, 128]⟩
abbrev S1x1 : Shape := ⟨2, ![1, 1]⟩
abbrev S_ : Shape := ⟨0, ![]⟩
abbrev S8x128 : Shape := ⟨2, ![8, 128]⟩
abbrev S1x512x128 : Shape := ⟨3, ![1, 512, 128]⟩
abbrev S1 : Shape := ⟨1, ![1]⟩
abbrev S1x1x1 : Shape := ⟨3, ![1, 1, 1]⟩
abbrev S1x128 : Shape := ⟨2, ![1, 128]⟩
abbrev S511x128 : Shape := ⟨2, ![511, 128]⟩
abbrev S2x128 : Shape := ⟨2, ![2, 128]⟩
abbrev S510x128 : Shape := ⟨2, ![510, 128]⟩
abbrev S4x128 : Shape := ⟨2, ![4, 128]⟩
abbrev S508x128 : Shape := ⟨2, ![508, 128]⟩
abbrev S504x128 : Shape := ⟨2, ![504, 128]⟩
abbrev S16x128 : Shape := ⟨2, ![16, 128]⟩
abbrev S496x128 : Shape := ⟨2, ![496, 128]⟩
abbrev S32x128 : Shape := ⟨2, ![32, 128]⟩
abbrev S480x128 : Shape := ⟨2, ![480, 128]⟩
abbrev S64x128 : Shape := ⟨2, ![64, 128]⟩
abbrev S448x128 : Shape := ⟨2, ![448, 128]⟩
abbrev S128x128 : Shape := ⟨2, ![128, 128]⟩
abbrev S384x128 : Shape := ⟨2, ![384, 128]⟩
abbrev S256x128 : Shape := ⟨2, ![256, 128]⟩
abbrev S512x1 : Shape := ⟨2, ![512, 1]⟩
abbrev S512x127 : Shape := ⟨2, ![512, 127]⟩
abbrev S512x2 : Shape := ⟨2, ![512, 2]⟩
abbrev S512x126 : Shape := ⟨2, ![512, 126]⟩
abbrev S512x4 : Shape := ⟨2, ![512, 4]⟩
abbrev S512x124 : Shape := ⟨2, ![512, 124]⟩
abbrev S512x8 : Shape := ⟨2, ![512, 8]⟩
abbrev S512x120 : Shape := ⟨2, ![512, 120]⟩
abbrev S512x16 : Shape := ⟨2, ![512, 16]⟩
abbrev S512x112 : Shape := ⟨2, ![512, 112]⟩
abbrev S512x32 : Shape := ⟨2, ![512, 32]⟩
abbrev S512x96 : Shape := ⟨2, ![512, 96]⟩
abbrev S512x64 : Shape := ⟨2, ![512, 64]⟩
abbrev S512x512 : Shape := ⟨2, ![512, 512]⟩

abbrev nBuf : Space → Nat
  | .hbm => 8
  | .vmem => 5
  | .smem => 0
  | _ => 0

abbrev bufTy : (tb : Table) → Fin (tcTables nBuf tb) → BufTy
  | .hbm, ⟨0, _⟩ => ⟨S65536, .f32⟩
  | .hbm, ⟨1, _⟩ => ⟨S65536, .f32⟩
  | .hbm, ⟨2, _⟩ => ⟨S65536, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S1x1, .f32⟩
  | .hbm, ⟨7, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S1x1, .f32⟩
  | .local _ .vmem, ⟨4, _⟩ => ⟨S8x128, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S65536 : Shape := ⟨1, ![65536]⟩
abbrev S_ : Shape := ⟨0, ![]⟩
abbrev S65536x1 : Shape := ⟨2, ![65536, 1]⟩

abbrev nBuf : Space → Nat
  | .hbm => 48
  | .vmem => 0
  | .smem => 0
  | _ => 0

abbrev bufTy : (tb : Table) → Fin (tcTables nBuf tb) → BufTy
  | .hbm, ⟨0, _⟩ => ⟨S65536, .f32⟩
  | .hbm, ⟨1, _⟩ => ⟨S65536, .f32⟩
  | .hbm, ⟨2, _⟩ => ⟨S65536, .f32⟩
  | .hbm, ⟨3, _⟩ => ⟨S65536, .i32⟩
  | .hbm, ⟨4, _⟩ => ⟨S65536, .f32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536, .f32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S65536x1, .i32⟩
  | .hbm, ⟨23, _⟩ => ⟨S65536, .f32⟩
  | .hbm, ⟨24, _⟩ => ⟨S_, .f32⟩
  | .hbm, ⟨25, _⟩ => ⟨S_, .f32⟩
  | .hbm, ⟨26, _⟩ => ⟨S65536, .f32⟩
  | .hbm, ⟨27, _⟩ => ⟨S65536, .f32⟩
  | .hbm, ⟨28, _⟩ => ⟨S65536, .f32⟩
  | .hbm, ⟨29, _⟩ => ⟨S_, .f32⟩
  | .hbm, ⟨30, _⟩ => ⟨S_, .f32⟩
  | .hbm, ⟨31, _⟩ => ⟨S65536, .f32⟩
  | .hbm, ⟨32, _⟩ => ⟨S_, .f32⟩
  | .hbm, ⟨33, _⟩ => ⟨S65536, .f32⟩
  | .hbm, ⟨34, _⟩ => ⟨S65536, .f32⟩
  | .hbm, ⟨35, _⟩ => ⟨S65536, .f32⟩
  | .hbm, ⟨36, _⟩ => ⟨S65536, .f32⟩
  | .hbm, ⟨37, _⟩ => ⟨S65536, .f32⟩
  | .hbm, ⟨38, _⟩ => ⟨S65536, .f32⟩
  | .hbm, ⟨39, _⟩ => ⟨S65536, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_call0_cst : Ref sig .tc := ⟨.hbm, 29, rfl⟩
abbrev main_call1_call0_v0 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.Steps.lean ====
/- One exchange step of the kernel's sorting network, the network, and what the kernel computes from the sorted
   arrays, each written once: the step for a symbolic stage and distance. -/
module

public import proofs.«01_k».proof.Proof.Gen.KernelIdeal

@[expose] public section

noncomputable section

namespace Cert.Proof

open Idealize.ShloMosaic Cert.KernelIdeal Cert.KernelIdeal.Facts₀

variable {F : FTy → Type} [FloatOps F]

/-- The shape of a matrix of `r` rows and `c` columns. -/
abbrev Mat (r c : ℕ) : Shape := ⟨2, ![r, c]⟩

/-- `d` rows from row `e` on lie within 512 rows. -/
theorem slice_rows {d e o : ℕ} (h : o + d ≤ 512) (_ : d + e = 512) : (Mat 512 128).Slices ![o, 0] (Mat d 128) :=
  ⟨rfl, fun a => by fin_cases a <;> simp [h]⟩

/-- `d` columns from column `e` on lie within 128 columns. -/
theorem slice_cols {d e o : ℕ} (h : o + d ≤ 128) (_ : d + e = 128) : (Mat 512 128).Slices ![0, o] (Mat 512 d) :=
  ⟨rfl, fun a => by fin_cases a <;> simp [h]⟩

/-- `d` rows above `e` rows are 512 rows. -/
theorem concat_rows {d e : ℕ} (h : d + e = 512) : Shape.Concatenates [Mat d 128, Mat e 128] (Mat 512 128) 0 := by
  refine ⟨by simp, ?_, by simp [h]⟩
  intro s hs
  simp only [List.mem_cons, List.not_mem_nil, or_false] at hs
  rcases hs with rfl | rfl
  all_goals exact ⟨rfl, fun b hb => by fin_cases b <;> simp_all⟩

/-- `d` columns before `e` columns are 128 columns. -/
theorem concat_cols {d e : ℕ} (h : d + e = 128) : Shape.Concatenates [Mat 512 d, Mat 512 e] (Mat 512 128) 1 := by
  refine ⟨by simp, ?_, by simp [h]⟩
  intro s hs
  simp only [List.mem_cons, List.not_mem_nil, or_false] at hs
  rcases hs with rfl | rfl
  all_goals exact ⟨rfl, fun b hb => by fin_cases b <;> simp_all⟩

/-- The last `d` rows moved before the first `e`. -/
def rollRows (d e : ℕ) (h : d + e = 512) (x : FVec F S512x128 .f32) : FVec F S512x128 .f32 :=
  concatenate S512x128 0
    [⟨Mat d 128, extractStridedSlice (Mat d 128) ![e, 0] x (slice_rows (by omega) h)⟩,
     ⟨Mat e 128, extractStridedSlice (Mat e 128) ![0, 0] x (slice_rows (by omega) (Nat.add_comm d e ▸ h))⟩] (concat_rows h)

/-- The last `d` columns moved before the first `e`. -/
def rollCols (d e : ℕ) (h : d + e = 128) (x : FVec F S512x128 .f32) : FVec F S512x128 .f32 :=
  concatenate S512x128 1
    [⟨Mat 512 d, extractStridedSlice (Mat 512 d) ![0, e] x (slice_cols (by omega) h)⟩,
     ⟨Mat 512 e, extractStridedSlice (Mat 512 e) ![0, 0] x (slice_cols (by omega) (Nat.add_comm d e ▸ h))⟩] (concat_cols h)

/-- Every entry's row. -/
def rowIdx : IVec S512x128 32 := iota .tc S512x128 32 [0] iota_S512x128_d0_w32

/-- Every entry's column. -/
def colIdx : IVec S512x128 32 := iota .tc S512x128 32 [1] iota_S512x128_d1_w32

/-- Every entry's position: the column times 512, plus the row. -/
def posIdx : IVec S512x128 32 := addi (muli colIdx (broadcast S512x128 512#32)) rowIdx

/-- Where bit `d` of `x` is set. -/
def bitSet (x : IVec S512x128 32) (d : ℕ) : IVec S512x128 1 :=
  cmpi .ne (andi x (broadcast S512x128 (BitVec.ofNat 32 d))) (broadcast S512x128 0#32)

/-- A power of two below 512 and the rest of the rows make 512. -/
theorem pow_rows {b : ℕ} (h : b < 9) : 2 ^ b + (512 - 2 ^ b) = 512 := by
  have : 2 ^ b ≤ 2 ^ 9 := Nat.pow_le_pow_right (by omega) (by omega)
  omega

/-- A power of two below 128 and the rest of the columns make 128. -/
theorem pow_cols {b : ℕ} (h : b < 16) : 2 ^ (b - 9) + (128 - 2 ^ (b - 9)) = 128 := by
  have : 2 ^ (b - 9) ≤ 2 ^ 7 := Nat.pow_le_pow_right (by omega) (by omega)
  omega

/-- Every entry's partner at distance `2 ^ b`: the entry of `x` whose position differs in bit `b` alone. -/
def partner (b : Fin 16) (x : FVec F S512x128 .f32) : FVec F S512x128 .f32 :=
  if h : b.1 < 9 then
    select (bitSet rowIdx (2 ^ b.1)) (rollRows (2 ^ b.1) (512 - 2 ^ b.1) (pow_rows h) x)
      (rollRows (512 - 2 ^ b.1) (2 ^ b.1) (Nat.add_comm _ _ ▸ pow_rows h) x)
  else
    select (bitSet colIdx (2 ^ (b.1 - 9))) (rollCols (2 ^ (b.1 - 9)) (128 - 2 ^ (b.1 - 9)) (pow_cols b.2) x)
      (rollCols (128 - 2 ^ (b.1 - 9)) (2 ^ (b.1 - 9)) (Nat.add_comm _ _ ▸ pow_cols b.2) x)

/-- Where stage `st` sorts upwards: bit `st + 1` of the position is clear. -/
def upMask (st : ℕ) : IVec S512x128 1 :=
  cmpi .eq (andi (shrsi posIdx (broadcast S512x128 (BitVec.ofNat 32 (st + 1)))) (broadcast S512x128 1#32)) (broadcast S512x128 0#32)

/-- Where the smaller key is kept: where the entry is the lower of its pair and the stage sorts upwards, or neither. -/
def keepMin (st : ℕ) (b : Fin 16) : IVec S512x128 1 :=
  xori (xori (cmpi .eq (andi posIdx (broadcast S512x128 (BitVec.ofNat 32 (2 ^ b.1)))) (broadcast S512x128 0#32)) (upMask st))
    (constantI S512x128 1 1#1)

/-- Where the partner's entry is taken: its key `pk` is smaller and the smaller is kept, or larger and the larger is kept. -/
def takeMask (st : ℕ) (b : Fin 16) (pk k : FVec F S512x128 .f32) : IVec S512x128 1 :=
  ori (andi (keepMin st b) (cmpf .olt pk k)) (andi (xori (keepMin st b) (constantI S512x128 1 1#1)) (cmpf .ogt pk k))

/-- The three arrays that the network exchanges: the keys, the events and the hazards. -/
structure Arrays (F : FTy → Type) [FloatOps F] where
  k : FVec F S512x128 .f32
  ev : FVec F S512x128 .f32
  h : FVec F S512x128 .f32

/-- One step: stage `st`, distance `2 ^ b`. -/
def step (st : ℕ) (b : Fin 16) (s : Arrays F) : Arrays F :=
  ⟨select (takeMask st b (partner b s.k) s.k) (partner b s.k) s.k,
   select (takeMask st b (partner b s.k) s.k) (partner b s.ev) s.ev,
   select (takeMask st b (partner b s.k) s.k) (partner b s.h) s.h⟩

/-- The steps of stage `st` at the distances `2 ^ (n - 1)` down to 1. -/
def steps (st : ℕ) : ℕ → Arrays F → Arrays F
  | 0, s => s
  | n + 1, s => steps st n (step st (Fin.ofNat 16 n) s)

/-- The first `n` stages. -/
def stages : ℕ → Arrays F → Arrays F
  | 0, s => s
  | n + 1, s => steps n (n + 1) (stages n s)

/-- The largest entry of `x`. -/
def maxAll (x : FVec F S512x128 .f32) : F .f32 :=
  extractAt ![0, 0, 0] (shapeCast S1x1x1 (multiReduction .maximumf [1, 2] S1
    (shapeCast S1x512x128 x shapeCasts_S512x128_S1x512x128) 0xFF800000#32 reduces_S1x512x128_S1 (.inl rfl) rfl)
    shapeCasts_S1_S1x1x1) inpos_S1x1x1_p0_0_0

/-- The sum of `x`'s entries. -/
def sumAll (x : FVec F S512x128 .f32) : F .f32 :=
  extractAt ![0, 0, 0] (shapeCast S1x1x1 (multiReduction .add [1, 2] S1
    (shapeCast S1x512x128 x shapeCasts_S512x128_S1x512x128) 0x00000000#32 reduces_S1x512x128_S1 (.inl rfl) rfl)
    shapeCasts_S1_S1x1x1) inpos_S1x1x1_p0_0_0

/-- Ones where the column is at most the row. -/
def lower : FVec F S512x512 .f32 :=
  select (cmpi .sle (iota .tc S512x512 32 [1] iota_S512x512_d1_w32) (iota .tc S512x512 32 [0] iota_S512x512_d0_w32))
    (broadcast S512x512 (Scalar.ofBits .f32 0x3F800000#32)) (broadcast S512x512 (Scalar.ofBits .f32 0x00000000#32))

/-- Ones where the row is less than the column. -/
def strictUpper : FVec F S128x128 .f32 :=
  select (cmpi .slt (iota .tc S128x128 32 [0] iota_S128x128_d0_w32) (iota .tc S128x128 32 [1] iota_S128x128_d1_w32))
    (broadcast S128x128 (Scalar.ofBits .f32 0x3F800000#32)) (broadcast S128x128 (Scalar.ofBits .f32 0x00000000#32))

/-- The prefix sums of `h` down each column. -/
def colPrefix (h : FVec F S512x128 .f32) : FVec F S512x128 .f32 :=
  matmul dot_S512x512_S512x128_S512x128_1_0_0_1_n_n none lower h (constant S512x128 .f32 0x00000000#32)

/-- Per column, the sum of the columns before it, the columns' sums being the last row of `p`. -/
def colOffset (p : FVec F S512x128 .f32) : FVec F S1x128 .f32 :=
  matmul dot_S1x128_S128x128_S1x128_1_0_0_1_n_n none
    (extractStridedSlice S1x128 ![511, 0] p slices_S512x128_o511_0_S1x128) strictUpper (constant S1x128 .f32 0x00000000#32)

/-- The prefix sums of `h` down the columns, one column after another. -/
def prefixAll (h : FVec F S512x128 .f32) : FVec F S512x128 .f32 :=
  addf (colPrefix h) (broadcastTo S512x128 (colOffset (colPrefix h)) broadcasts_S1x128_S512x128)

/-- The sum of the events times the logarithms of the prefix sums. -/
def logTerm (ev h : FVec F S512x128 .f32) : F .f32 :=
  sumAll (mulf ev (log (addf (prefixAll h) (broadcast S512x128 (Scalar.ofBits .f32 0x358637BD#32)))))

/-- The array as the kernel reads it. -/
def asRead (x : Vec F S512x128 .f32) : FVec F S512x128 .f32 := shapeCast S512x128 x shapeCasts_S512x128_S512x128

/-- The loss from its pieces: the largest log hazard, the sum of the events, the sum of the events times the log
    hazards, and the logarithm term. -/
def lossOf (lmax sumE sumElh term : F .f32) : F .f32 :=
  Scalar.divf (Scalar.subf (Scalar.ofBits .f32 0x00000000#32) (Scalar.subf (Scalar.subf sumElh term) (Scalar.mulf lmax sumE)))
    (Scalar.addf sumE (Scalar.ofBits .f32 0x358637BD#32))

/-- The arrays before the network: the times, the events, and the exponentials of the log hazards less the largest. -/
def initial (t e lh : FVec F S512x128 .f32) : Arrays F :=
  ⟨t, e, exp (subf lh (broadcast S512x128 (maxAll lh)))⟩

/-- The kernel's one result from its three blocks. -/
def kernelOut (t e lh : FVec F S512x128 .f32) : F .f32 :=
  lossOf (maxAll lh) (sumAll e) (sumAll (mulf e lh)) (logTerm (stages 16 (initial t e lh)).ev (stages 16 (initial t e lh)).h)

end Cert.Proof

end
-- ==== Proof.Chain.lean ====
/- The kernel's straight-line text is the network of `Steps`: by definitional unfolding. -/
module

public import proofs.«01_k».proof.Proof.Steps
public import proofs.«01_k».proof.Proof.Gen.KernelIdeal.Frame

@[expose] public section

set_option maxRecDepth 16384

noncomputable section

namespace Cert.Proof

open Idealize.ShloMosaic Idealize.ShloMosaic.Tactic Cert.KernelIdeal Cert.KernelIdeal.Gen

variable {F : FTy → Type} [FloatOps F]

/-- A block as the kernel loads it from its whole buffer. -/
abbrev loaded (a : Memref sig .tc .vmem S512x128 .f32) (ha : a.IsWhole) (x : Vec F S512x128 .f32) : Vec F S512x128 .f32 :=
  View.readAt (Elt F) a.view (Rect.unit ![0, 0] S512x128.size inb_S512x128_S512x128_0_0).toLoadRect (ha.unread x)

/-- What the body stores: one piece, over the whole result, holding `kernelOut` of the blocks as read. -/
theorem pieces_eq (c : Dev nD) (arg0 : Memref sig .tc .vmem S512x128 .f32) (harg0 : arg0.IsWhole)
    (arg1 : Memref sig .tc .vmem S512x128 .f32) (harg1 : arg1.IsWhole) (arg2 : Memref sig .tc .vmem S512x128 .f32)
    (harg2 : arg2.IsWhole) (arg3 : Memref sig .tc .vmem S1x1 .f32) (harg3 : arg3.IsWhole)
    (arg4 : Memref sig .tc .vmem S8x128 .f32) (harg4 : arg4.IsWhole) (x0 x1 x2 : Vec F S512x128 .f32) :
    (kernelRun0_A c arg0 harg0 arg1 harg1 arg2 harg2 arg3 harg3 arg4 harg4 x0 x1 x2).1 =
      [⟨Rect.unit ![0, 0] S1x1.size inb_S1x1_S1x1_0_0,
        broadcast S1x1 (kernelOut (asRead (loaded arg0 harg0 x0)) (asRead (loaded arg1 harg1 x1)) (asRead (loaded arg2 harg2 x2)))⟩] := by
  sl_kernel_rfl

end Cert.Proof

end
-- ==== Proof.KernelRun.lean ====
/- The kernel's run with its result named: `kernelOut` of the three arguments laid out as 512 × 128 blocks. -/
module

public import proofs.«01_k».proof.Proof.Chain
public import Idealize.ShloMosaic.Lib.Pipeline.Value
public import Idealize.ShloMosaic.Lib.WholeRead

@[expose] public section

noncomputable section

namespace Cert.Proof

open Idealize.ShloMosaic Idealize.ShloMosaic.TcCoe Idealize.ShloMosaic.Tactic Idealize.SL.Sem Cert.KernelIdeal
open Cert.KernelIdeal.Gen
open Idealize.ShloMosaic.Pipeline (Dat)

variable {F : FTy → Type} [FloatOps F]

/-- A zero offset on both axes, however written. -/
theorem zero_offsets : (![0, 0] : Fin 2 → ℕ) = fun _ => 0 := by
  funext a; match a with
  | ⟨0, _⟩ => rfl
  | ⟨1, _⟩ => rfl

/-- The rectangle of an array's own sizes at zero offsets places each index at itself. -/
theorem unit_idx {s : Shape} (off : Fin s.rank → ℕ) (h : off = fun _ => 0) (inb : ∀ a, off a + s.size a ≤ s.size a)
    (i : s.Idx) : (Rect.unit off s.size inb).toLoadRect.idx i = i := by
  subst h; exact Rect.emb_whole_apply _ i

/-- A block loaded whole is the block. -/
theorem loaded_eq (a : Memref sig .tc .vmem S512x128 .f32) (ha : a.IsWhole) (x : Vec F S512x128 .f32) : loaded a ha x = x := by
  funext i
  have e := unit_idx (s := S512x128) _ zero_offsets inb_S512x128_S512x128_0_0 i
  exact (ha.readAt_unread x (Rect.unit (s := S512x128) ![0, 0] S512x128.size inb_S512x128_S512x128_0_0).toLoadRect i).trans
    (congrArg x e)

/-- A block reshaped to its own shape is the block. -/
theorem asRead_eq (x : Vec F S512x128 .f32) : asRead x = x := shapeCast_self x _

/-- One store over the whole 1 × 1 result leaves what it stored. -/
theorem read_store (f : VO0_3.ty.Contents (Elt F)) (v : F .f32) :
    VO0_3.read (Elt F) (VO0_3.writes (Elt F) f [⟨Rect.unit ![0, 0] S1x1.size inb_S1x1_S1x1_0_0, broadcast S1x1 v⟩])
      = fun _ => v := by
  funext i
  have h := View.read_writes_cons_emb VO0_3 f (Rect.unit ![0, 0] S1x1.size inb_S1x1_S1x1_0_0) (broadcast S1x1 v) [] i
  have e : (Rect.unit (s := S1x1) ![0, 0] S1x1.size inb_S1x1_S1x1_0_0).emb i = i := unit_idx (s := S1x1) _ zero_offsets _ i
  rw [e] at h
  exact h

/-- What the body leaves in its result block. -/
theorem out_eq (c : Dev nD) (arg0 : Memref sig .tc .vmem S512x128 .f32) (harg0 : arg0.IsWhole)
    (arg1 : Memref sig .tc .vmem S512x128 .f32) (harg1 : arg1.IsWhole) (arg2 : Memref sig .tc .vmem S512x128 .f32)
    (harg2 : arg2.IsWhole) (arg3 : Memref sig .tc .vmem S1x1 .f32) (harg3 : arg3.IsWhole)
    (arg4 : Memref sig .tc .vmem S8x128 .f32) (harg4 : arg4.IsWhole) (x0 x1 x2 : Vec F S512x128 .f32) :
    out0_A_3 c arg0 harg0 arg1 harg1 arg2 harg2 arg3 harg3 arg4 harg4 x0 x1 x2 = fun _ => kernelOut x0 x1 x2 := by
  unfold out0_A_3
  rw [pieces_eq, loaded_eq, loaded_eq, loaded_eq, asRead_eq, asRead_eq, asRead_eq]
  exact read_store _ _

variable (m : (ℓ : Loc nD τ sig) → Buf (Elt F) ℓ) (ρ : Dev nD → PrngReg)

/-- An argument laid out row by row in 512 rows of 128. -/
abbrev laid (x : FVec F S65536 .f32) : FVec F S512x128 .f32 := shapeCast S512x128 x shapeCasts_S65536_S512x128

/-- The first staged array is the times, laid out. -/
theorem staged0 (c : Dev nD) : V m c main_call0_v0 = laid (m ((c : Thread nD τ).loc main_arg2)) := by
  show StableHlo.after (List.flatten [hostOps0]) (fun b => m (c, b)) (Proc.devRef .tc main_call0_v0) = _
  simp only [hostOps0, List.flatten_cons, List.flatten_nil, List.append_nil, StableHlo.TRef.reshape]
  after_results
  rfl

/-- The second staged array is the events, laid out. -/
theorem staged1 (c : Dev nD) : V m c main_call0_v1 = laid (m ((c : Thread nD τ).loc main_arg1)) := by
  show StableHlo.after (List.flatten [hostOps0]) (fun b => m (c, b)) (Proc.devRef .tc main_call0_v1) = _
  simp only [hostOps0, List.flatten_cons, List.flatten_nil, List.append_nil, StableHlo.TRef.reshape]
  after_results
  rfl

/-- The third staged array is the log hazards, laid out. -/
theorem staged2 (c : Dev nD) : V m c main_call0_v2 = laid (m ((c : Thread nD τ).loc main_arg0)) := by
  show StableHlo.after (List.flatten [hostOps0]) (fun b => m (c, b)) (Proc.devRef .tc main_call0_v2) = _
  simp only [hostOps0, List.flatten_cons, List.flatten_nil, List.append_nil, StableHlo.TRef.reshape]
  after_results
  rfl

/-- The block of the times is the whole staged array. -/
theorem block0 (c : Dev nD) (t : Fin cfg0.N) : iblk m c 0 t = V m c main_call0_v0 := by
  funext i
  unfold iblk
  have e : ((cfg0.win 0).rect t).emb i = i := by
    funext a
    exact Fin.ext ((cfg0.win 0).rect_emb_val_of_index_zero t a rfl i)
  exact congrArg (V m c main_call0_v0) e

/-- The block of the events is the whole staged array. -/
theorem block1 (c : Dev nD) (t : Fin cfg0.N) : iblk m c 1 t = V m c main_call0_v1 := by
  funext i
  unfold iblk
  have e : ((cfg0.win 1).rect t).emb i = i := by
    funext a
    exact Fin.ext ((cfg0.win 1).rect_emb_val_of_index_zero t a rfl i)
  exact congrArg (V m c main_call0_v1) e

/-- The block of the log hazards is the whole staged array. -/
theorem block2 (c : Dev nD) (t : Fin cfg0.N) : iblk m c 2 t = V m c main_call0_v2 := by
  funext i
  unfold iblk
  have e : ((cfg0.win 2).rect t).emb i = i := by
    funext a
    exact Fin.ext ((cfg0.win 2).rect_emb_val_of_index_zero t a rfl i)
  exact congrArg (V m c main_call0_v2) e

/-- The kernel's result on one device: the loss of the arguments laid out as blocks. -/
def result (c : Dev nD) : F .f32 :=
  kernelOut (laid (m ((c : Thread nD τ).loc main_arg2))) (laid (m ((c : Thread nD τ).loc main_arg1)))
    (laid (m ((c : Thread nD τ).loc main_arg0)))

/-- What the one point leaves for the result. -/
theorem left_eq (c : Dev nD) (t : Fin cfg0.N) : outsAt0 m c t = fun _ => result m c := by
  unfold outsAt0 result
  rw [out_eq, block0, block1, block2, staged0, staged1, staged2]

/-- The result's window has one point, so two points that write back at different places don't exist. -/
theorem apart : ∀ t t' : Fin cfg0.N, (cfg0.win 3).flush t = true → (cfg0.win 3).flush t' = true → t ≠ t' →
    Disjoint ((cfg0.win 3).blk t).view.set ((cfg0.win 3).blk t').view.set :=
  fun t t' _ _ hne => absurd ((by decide +kernel : ∀ t t' : Fin grid0.N, t = t') t t') hne

/-- The result array after the region. -/
theorem array_eq (c : Dev nD) : (dats m 0 c).arrAt 3 cfg0.N = fun _ => result m c := by
  have hf : (cfg0.win 3).flush ⟨0, by decide⟩ = true := by decide +kernel
  funext i
  have h := congrFun ((dats m 0 c).read_blk_arrAt_eq_flushed 3 apart cfg0.N ⟨0, by decide⟩ (by decide) hf) i
  have e : ((cfg0.win 3).rect ⟨0, by decide⟩).emb i = i := by
    funext a
    exact Fin.ext ((cfg0.win 3).rect_emb_val_of_index_zero _ a rfl i)
  have h' : (dats m 0 c).arrAt 3 cfg0.N (((cfg0.win 3).rect ⟨0, by decide⟩).emb i) = (dats m 0 c).flushed 3 ⟨0, by decide⟩ i := h
  rw [e] at h'
  refine h'.trans ?_
  show (cfg0.win 3).cut (grid0.coords _) ((dats m 0 c).after 3 _) i = _
  rw [after0_3, left_eq]

/-- The result buffer after the host's last reshape. -/
theorem tail_eq (c : Dev nD) : Pipeline.afterTail₀ cfgs (dats m) 0 (V0 m) [hostOps1] c main_v0 = fun _ => result m c := by
  unfold Pipeline.afterTail₀
  simp only [hostOps1, List.flatten_cons, List.flatten_nil, List.append_nil, StableHlo.TRef.reshape]
  after_results
  rw [show Pipeline.withArrays (cfgs 0).spec c (V0 m c) (fun w => (dats m 0 c).arrAt w (cfgs 0).N) (Proc.devRef .tc main_call0_v3)
    = (dats m 0 c).arrAt 3 cfg0.N from Pipeline.withArrays_arr (cfgs 0).spec (by decide) c _ _ 3, array_eq]
  rfl

/-- The kernel's run: it ends with the loss in its result buffer, and its arguments as they were. -/
theorem run_kernel : θ_run defs (onTc (τ := τ) (main (F := F))) ⟨m, fun _ => 0, ρ⟩ fun r => ∀ c : Dev nD,
      r.2.mem ((c.tc : Thread nD τ).loc main_v0) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Proof

end
-- ==== Proof.Network.lean ====
/- The bitonic sorting network on entries that carry a key: what one stage leaves at a position, and that the whole
   network rearranges the entries and leaves the keys ascending. -/
module

public import Idealize.ShloMosaic.Lib.SortNet.Sorts
public import Idealize.ShloMosaic.Lib.SortNet.Keyed

@[expose] public section

namespace Cert.Proof

open Idealize.ShloMosaic.SortNet

variable {α β : Type*} [LinearOrder α]

/-- What one stage at distance `2 ^ s` leaves at position `i`, where the two positions of a pair have one direction: the
    entry with the smaller key, where the position's bit `s` is clear and the smaller goes first or neither; else the
    entry with the larger key. Equal keys stay. -/
theorem applyBy_stage (key : β → α) {p s : ℕ} (hs : s < p) (first : Fin (2 ^ p) → Bool)
    (hf : ∀ i, first (partner p s i) = first i) (v : Fin (2 ^ p) → β) (i : Fin (2 ^ p)) :
    Network.applyBy key (stage p s first) v i =
      if (decide (i.val &&& 2 ^ s = 0) ^^ first i) = true then
        (if key (v (partner p s i)) < key (v i) then v (partner p s i) else v i)
      else (if key (v i) < key (v (partner p s i)) then v (partner p s i) else v i) := by
  have main : ∀ j : Fin (2 ^ p), j.val &&& 2 ^ s = 0 →
      (Network.applyBy key (stage p s first) v j =
        if first j = true then (if key (v j) < key (v (partner p s j)) then v (partner p s j) else v j)
        else (if key (v (partner p s j)) < key (v j) then v (partner p s j) else v j)) ∧
      (Network.applyBy key (stage p s first) v (partner p s j) =
        if first j = true then (if key (v j) < key (v (partner p s j)) then v j else v (partner p s j))
        else (if key (v (partner p s j)) < key (v j) then v j else v (partner p s j))) := by
    intro j hj
    have hne : j ≠ partner p s j := fun h => partner_ne hs j j hj hj h.symm
    have h := Network.applyBy_of_mem_of_disjoint key _ (stage_pairwise_disjoint hs first) _
      (mem_stage.mpr ⟨j, hj, hne, rfl⟩) v
    unfold stageCmpx at h
    by_cases hw : first j = true
    · simp only [hw, if_true] at h ⊢
      exact ⟨h.2, h.1⟩
    · simp only [hw] at h ⊢
      exact ⟨h.1, h.2⟩
  by_cases hi : i.val &&& 2 ^ s = 0
  · rw [(main i hi).1]
    cases hw : first i <;> simp [hi]
  · have hc := partner_and_of_set hs i hi
    have h := (main _ hc).2
    rw [partner_partner hs, hf] at h
    rw [h]
    cases hw : first i <;> simp [hi]

/-- The direction of level `l`: the larger entry goes first where bit `l + 1` of the position is set. -/
def larger (p l : ℕ) (i : Fin (2 ^ p)) : Bool := decide (i.val &&& 2 ^ (l + 1) = 0) == false

/-- The two positions of a pair at a distance `2 ^ s` with `s ≤ l` have one direction at level `l`. -/
theorem larger_partner {p s l : ℕ} (hs : s < p) (hl : s ≤ l) (i : Fin (2 ^ p)) :
    larger p l (partner p s i) = larger p l i := by
  unfold larger
  have : (partner p s i).val &&& 2 ^ (l + 1) = i.val &&& 2 ^ (l + 1) := by
    rw [partner_val hs, Nat.and_xor_distrib_right]
    have : 2 ^ s &&& 2 ^ (l + 1) = 0 := by
      apply Nat.eq_of_testBit_eq
      intro t
      rw [Nat.testBit_and, Nat.testBit_two_pow, Nat.testBit_two_pow, Nat.zero_testBit]
      by_cases h : s = t
      · have : ¬ l + 1 = t := by omega
        simp [this]
      · simp [h]
    rw [this, Nat.xor_zero]
  rw [this]

/-- The whole network rearranges the entries, whatever they are. -/
theorem sortNet_perm (key : β → α) (p : ℕ) (v : Fin (2 ^ p) → β) :
    ∃ σ : Equiv.Perm (Fin (2 ^ p)), Network.applyBy key (sortNet p false) v = v ∘ σ :=
  Network.exists_perm_applyBy key _ v

/-- The whole network leaves the keys ascending. -/
theorem sortNet_sorted (key : β → α) (p : ℕ) (v : Fin (2 ^ p) → β) :
    Monotone (key ∘ Network.applyBy key (sortNet p false) v) := by
  rw [Network.key_comp_applyBy]
  exact sortNet_apply_monotone p _

end Cert.Proof
-- ==== Proof.Positions.lean ====
/- Where an entry of a block of 512 rows and 128 columns stands in the sorting order, and the exchange step's pieces read
   at an entry. -/
module

public import proofs.«01_k».proof.Proof.Steps
public import proofs.«01_k».proof.Proof.Network
public import Idealize.ShloMosaic.Lib.Pointwise
public import Idealize.ShloMosaic.PureOps.Ideal

@[expose] public section

noncomputable section

namespace Cert.Proof

open Idealize.ShloMosaic Cert.KernelIdeal Cert.KernelIdeal.Facts₀ Idealize.ShloMosaic.Pointwise

/-- The entry at position `p`: row `p` modulo 512, column `p` divided by 512. -/
def entry (p : Fin (2 ^ 16)) : S512x128.Idx :=
  ix2 (n0 := 512) (n1 := 128) ⟨p.val % 512, Nat.mod_lt _ (by decide)⟩ ⟨p.val / 512, by have := p.isLt; omega⟩

/-- The position of an entry: its column times 512, plus its row. -/
def posOf (i : S512x128.Idx) : Fin (2 ^ 16) :=
  ⟨(i 1).val * 512 + (i 0).val, by
    have h0 : (i 0).val < 512 := (i 0).isLt
    have h1 : (i 1).val < 128 := (i 1).isLt
    omega⟩

/-- The entry at a position stands at that position. -/
theorem posOf_entry (p : Fin (2 ^ 16)) : posOf (entry p) = p :=
  Fin.ext (by show p.val / 512 * 512 + p.val % 512 = p.val; omega)

/-- The position of an entry leads back to the entry. -/
theorem entry_posOf (i : S512x128.Idx) : entry (posOf i) = i := by
  have h0 : (i 0).val < 512 := (i 0).isLt
  have h1 : (i 1).val < 128 := (i 1).isLt
  funext a
  match a with
  | ⟨0, _⟩ => exact Fin.ext (by show ((i 1).val * 512 + (i 0).val) % 512 = (i 0).val; omega)
  | ⟨1, _⟩ => exact Fin.ext (by show ((i 1).val * 512 + (i 0).val) / 512 = (i 1).val; omega)

/-- Positions and entries correspond one to one. -/
def entryEquiv : Fin (2 ^ 16) ≃ S512x128.Idx := ⟨entry, posOf, posOf_entry, entry_posOf⟩

section
variable {F : FTy → Type} [FloatOps F]

/-- Rows rolled by `d`, at an entry. -/
theorem rollRows_apply (d e : ℕ) (h : d + e = 512) (x : FVec F S512x128 .f32) (r : Fin 512) (c : Fin 128) :
    rollRows d e h x (ix2 r c) =
      if hr : r.val < d then x (ix2 ⟨e + r.val, by omega⟩ c) else x (ix2 ⟨r.val - d, by omega⟩ c) := by
  unfold rollRows
  rw [concatenate_pair_apply]
  split
  · rename_i hlt
    have hr : r.val < d := hlt
    rw [dif_pos hr, Pointwise.extractStridedSlice_apply]
    congr 1
    funext a
    match a with
    | ⟨0, _⟩ => exact Fin.ext rfl
    | ⟨1, _⟩ => exact Fin.ext (Nat.zero_add _)
  · rename_i hlt
    have hr : ¬ r.val < d := hlt
    rw [dif_neg hr, Pointwise.extractStridedSlice_apply]
    congr 1
    funext a
    match a with
    | ⟨0, _⟩ => exact Fin.ext (Nat.zero_add _)
    | ⟨1, _⟩ => exact Fin.ext (Nat.zero_add _)

/-- Columns rolled by `d`, at an entry. -/
theorem rollCols_apply (d e : ℕ) (h : d + e = 128) (x : FVec F S512x128 .f32) (r : Fin 512) (c : Fin 128) :
    rollCols d e h x (ix2 r c) =
      if hr : c.val < d then x (ix2 r ⟨e + c.val, by omega⟩) else x (ix2 r ⟨c.val - d, by omega⟩) := by
  unfold rollCols
  rw [concatenate_pair_apply]
  split
  · rename_i hlt
    have hr : c.val < d := hlt
    rw [dif_pos hr, Pointwise.extractStridedSlice_apply]
    congr 1
    funext a
    match a with
    | ⟨0, _⟩ => exact Fin.ext (Nat.zero_add _)
    | ⟨1, _⟩ => exact Fin.ext rfl
  · rename_i hlt
    have hr : ¬ c.val < d := hlt
    rw [dif_neg hr, Pointwise.extractStridedSlice_apply]
    congr 1
    funext a
    match a with
    | ⟨0, _⟩ => exact Fin.ext (Nat.zero_add _)
    | ⟨1, _⟩ => exact Fin.ext (Nat.zero_add _)

end

/-- The and of a small number's word and a power of two's is zero exactly when the and of the numbers is. -/
theorem and_word (n b : ℕ) (hn : n < 2 ^ 32) (hb : b < 32) :
    (BitVec.ofNat 32 n &&& BitVec.ofNat 32 (2 ^ b) = 0#32) ↔ n &&& 2 ^ b = 0 := by
  have h2 : 2 ^ b < 2 ^ 32 := Nat.pow_lt_pow_right (by decide) hb
  rw [← BitVec.toNat_inj, BitVec.toNat_and, BitVec.toNat_ofNat, BitVec.toNat_ofNat, Nat.mod_eq_of_lt hn, Nat.mod_eq_of_lt h2]
  rfl

/-- The word of an entry's position. -/
theorem posIdx_apply (i : S512x128.Idx) : posIdx i = BitVec.ofNat 32 (posOf i).val := by
  have h0 : (i 0).val < 512 := (i 0).isLt
  have h1 : (i 1).val < 128 := (i 1).isLt
  show BitVec.ofNat 32 (0 * 128 + (i 1).val) * 512#32 + BitVec.ofNat 32 (0 * 512 + (i 0).val) = _
  apply BitVec.eq_of_toNat_eq
  simp only [BitVec.toNat_add, BitVec.toNat_mul, BitVec.toNat_ofNat, posOf]
  omega

/-- The bit of a decided statement. -/
theorem ofBool_eq_one (b : Bool) : BitVec.ofBool b = 1#1 ↔ b = true := by cases b <;> decide

/-- `bitSet` at an entry whose word is `n`. -/
theorem bitSet_apply (x : IVec S512x128 32) (b n : ℕ) (i : S512x128.Idx) (hx : x i = BitVec.ofNat 32 n)
    (hn : n < 2 ^ 32) (hb : b < 32) : bitSet x (2 ^ b) i = BitVec.ofBool (decide (n &&& 2 ^ b ≠ 0)) := by
  show BitVec.ofBool (x i &&& BitVec.ofNat 32 (2 ^ b) != 0#32) = _
  rw [hx]
  congr 1
  rw [bne, Bool.eq_iff_iff]
  simp [and_word n b hn hb]

/-- The and with a power of two is zero exactly when that bit is clear. -/
theorem clear_iff (n b : ℕ) : n &&& 2 ^ b = 0 ↔ n.testBit b = false := by
  constructor
  · intro h
    have := congrArg (fun m => m.testBit b) h
    simpa [Nat.testBit_and, Nat.testBit_two_pow] using this
  · intro h
    apply Nat.eq_of_testBit_eq
    intro t
    rw [Nat.testBit_and, Nat.testBit_two_pow, Nat.zero_testBit]
    by_cases ht : b = t
    · subst ht; simp [h]
    · simp [ht]

/-- The low nine bits of a position are its row's. -/
theorem clear_row (p b : ℕ) (hb : b < 9) : (p % 512) &&& 2 ^ b = 0 ↔ p &&& 2 ^ b = 0 := by
  rw [clear_iff, clear_iff, show (512 : ℕ) = 2 ^ 9 from rfl, Nat.testBit_mod_two_pow]
  simp [hb]

/-- The bits of a position from the ninth on are its column's. -/
theorem clear_col (p b : ℕ) (hb : 9 ≤ b) : (p / 512) &&& 2 ^ (b - 9) = 0 ↔ p &&& 2 ^ b = 0 := by
  rw [clear_iff, clear_iff, show (512 : ℕ) = 2 ^ 9 from rfl, Nat.testBit_div_two_pow, show b - 9 + 9 = b by omega]

/-- A number with bit `b` clear has room for it. -/
theorem add_lt_of_clear {n b k : ℕ} (hb : b < k) (hn : n < 2 ^ k) (h : n &&& 2 ^ b = 0) : n + 2 ^ b < 2 ^ k := by
  have := SortNet.partner_val_of_clear hb ⟨n, hn⟩ h
  have h2 := (SortNet.partner k b ⟨n, hn⟩).isLt
  rw [this] at h2
  exact h2

/-- A number with bit `b` set is at least `2 ^ b`. -/
theorem le_of_set {n b : ℕ} (h : ¬ n &&& 2 ^ b = 0) : 2 ^ b ≤ n := by
  rw [clear_iff, Bool.not_eq_false] at h
  exact Nat.ge_two_pow_of_testBit h

section
variable {F : FTy → Type} [FloatOps F]

/-- Moving down within a column adds to the position. -/
theorem row_add (p d : ℕ) (h : p % 512 + d < 512) : (p + d) % 512 = d + p % 512 ∧ (p + d) / 512 = p / 512 := by omega

/-- Moving up within a column subtracts from the position. -/
theorem row_sub (p d : ℕ) (h : d ≤ p % 512) : (p - d) % 512 = p % 512 - d ∧ (p - d) / 512 = p / 512 := by omega

/-- Moving right by columns adds multiples of 512 to the position. -/
theorem col_add (p d : ℕ) : (p + 512 * d) % 512 = p % 512 ∧ (p + 512 * d) / 512 = d + p / 512 := by omega

/-- Moving left by columns subtracts multiples of 512 from the position. -/
theorem col_sub (p d : ℕ) (h : d ≤ p / 512) : (p - 512 * d) % 512 = p % 512 ∧ (p - 512 * d) / 512 = p / 512 - d := by
  omega

/-- A choice between two arrays, at an entry. -/
theorem select_at {s : Shape} {α : Type} (c : IVec s 1) (x y : s.Idx → α) (i : s.Idx) :
    select c x y i = Scalar.select (c i) (x i) (y i) := rfl

/-- `partner` brings to a position the entry whose position differs in bit `b` alone. -/
theorem partner_apply (b : Fin 16) (x : FVec F S512x128 .f32) (p : Fin (2 ^ 16)) :
    partner b x (entry p) = x (entry (SortNet.partner 16 b.1 p)) := by
  have hp : p.val < 65536 := p.isLt
  have key : ∀ q : Fin (2 ^ 16), ∀ (r : Fin 512) (c : Fin 128), q.val % 512 = r.val → q.val / 512 = c.val →
      (ix2 r c : S512x128.Idx) = entry q := by
    intro q r c h0 h1
    funext a
    match a with
    | ⟨0, _⟩ => exact Fin.ext h0.symm
    | ⟨1, _⟩ => exact Fin.ext h1.symm
  unfold partner
  by_cases hb : b.1 < 9
  · rw [dif_pos hb, select_at,
      bitSet_apply rowIdx b.1 (p.val % 512) (entry p) (by show BitVec.ofNat 32 (0 * 512 + p.val % 512) = _; rw [Nat.zero_mul, Nat.zero_add])
        (by omega) (by omega)]
    have hle : 2 ^ b.1 ≤ 256 := Nat.pow_le_pow_right (n := 2) (by omega) (show b.1 ≤ 8 by omega)
    by_cases hc : p.val &&& 2 ^ b.1 = 0
    · have hr := (clear_row p.val b.1 hb).mpr hc
      have hlt := add_lt_of_clear hb (n := p.val % 512) (by omega) hr
      have hv := SortNet.partner_val_of_clear b.2 p hc
      rw [decide_eq_false (by simpa using hr)]
      show rollRows _ _ (by first | exact pow_rows hb | exact Nat.add_comm _ _ ▸ pow_rows hb) x (ix2 _ _) = _
      rw [rollRows_apply _ _ (Nat.add_comm _ _ ▸ pow_rows hb), dif_pos (by show p.val % 512 < 512 - 2 ^ b.1; omega)]
      congr 1
      refine key _ _ _ ?_ ?_
      · rw [hv]; exact (row_add _ _ hlt).1
      · rw [hv]; exact (row_add _ _ hlt).2
    · have hr : ¬ (p.val % 512) &&& 2 ^ b.1 = 0 := fun h => hc ((clear_row p.val b.1 hb).mp h)
      have hge := le_of_set hr
      have hv := (SortNet.partner_val_of_set b.2 p hc).2
      rw [decide_eq_true hr]
      show rollRows _ _ (by first | exact pow_rows hb | exact Nat.add_comm _ _ ▸ pow_rows hb) x (ix2 _ _) = _
      rw [rollRows_apply, dif_neg (by show ¬ p.val % 512 < 2 ^ b.1; omega)]
      congr 1
      refine key _ _ _ ?_ ?_
      · rw [hv]; exact (row_sub _ _ hge).1
      · rw [hv]; exact (row_sub _ _ hge).2
  · have hb9 : 9 ≤ b.1 := by omega
    rw [dif_neg hb, select_at,
      bitSet_apply colIdx (b.1 - 9) (p.val / 512) (entry p) (by show BitVec.ofNat 32 (0 * 128 + p.val / 512) = _; rw [Nat.zero_mul, Nat.zero_add])
        (by omega) (by omega)]
    have hle : 2 ^ (b.1 - 9) ≤ 64 := Nat.pow_le_pow_right (n := 2) (by omega) (show b.1 - 9 ≤ 6 by omega)
    have hpow : 2 ^ b.1 = 512 * 2 ^ (b.1 - 9) := by
      rw [show (512 : ℕ) = 2 ^ 9 from rfl, ← Nat.pow_add, show 9 + (b.1 - 9) = b.1 by omega]
    by_cases hc : p.val &&& 2 ^ b.1 = 0
    · have hr := (clear_col p.val b.1 hb9).mpr hc
      have hlt := add_lt_of_clear (k := 7) (by omega) (n := p.val / 512) (by omega) hr
      have hv := SortNet.partner_val_of_clear b.2 p hc
      rw [decide_eq_false (by simpa using hr)]
      show rollCols _ _ (by first | exact pow_cols b.2 | exact Nat.add_comm _ _ ▸ pow_cols b.2) x (ix2 _ _) = _
      rw [rollCols_apply, dif_pos (by show p.val / 512 < 128 - 2 ^ (b.1 - 9); omega)]
      congr 1
      refine key _ _ _ ?_ ?_
      · rw [hv, hpow]; exact (col_add _ _).1
      · rw [hv, hpow]; exact (col_add _ _).2
    · have hr : ¬ (p.val / 512) &&& 2 ^ (b.1 - 9) = 0 := fun h => hc ((clear_col p.val b.1 hb9).mp h)
      have hge := le_of_set hr
      have hv := (SortNet.partner_val_of_set b.2 p hc).2
      rw [decide_eq_true hr]
      show rollCols _ _ (by first | exact pow_cols b.2 | exact Nat.add_comm _ _ ▸ pow_cols b.2) x (ix2 _ _) = _
      rw [rollCols_apply, dif_neg (by show ¬ p.val / 512 < 2 ^ (b.1 - 9); omega)]
      congr 1
      refine key _ _ _ ?_ ?_
      · rw [hv, hpow]; exact (col_sub _ _ hge).1
      · rw [hv, hpow]; exact (col_sub _ _ hge).2

end

/-- `upMask` at a position: bit `st + 1` is clear. -/
theorem upMask_apply (st : ℕ) (hst : st < 16) (p : Fin (2 ^ 16)) :
    upMask st (entry p) = BitVec.ofBool (decide (p.val &&& 2 ^ (st + 1) = 0)) := by
  have hp : p.val < 65536 := p.isLt
  show BitVec.ofBool (IntOp.shrsi .vector (posIdx (entry p)) (BitVec.ofNat 32 (st + 1)) &&& 1#32 == 0#32) = _
  rw [posIdx_apply, posOf_entry]
  congr 1
  have hs : (BitVec.ofNat 32 (st + 1)).toNat = st + 1 := by
    rw [BitVec.toNat_ofNat]; exact Nat.mod_eq_of_lt (by omega)
  have hmsb : (BitVec.ofNat 32 p.val).msb = false := by
    rw [BitVec.msb_eq_false_iff_two_mul_lt, BitVec.toNat_ofNat]; omega
  unfold IntOp.shrsi
  rw [if_pos (by rw [hs]; omega), BitVec.sshiftRight', hs, BitVec.sshiftRight_eq_of_msb_false hmsb, Bool.eq_iff_iff,
    beq_iff_eq, decide_eq_true_eq, clear_iff, ← BitVec.toNat_inj, BitVec.toNat_and, BitVec.toNat_ushiftRight, BitVec.toNat_ofNat,
    Nat.mod_eq_of_lt (show p.val < 2 ^ 32 by omega), Nat.testBit]
  show (p.val >>> (st + 1)) &&& 1 = 0 ↔ _
  rw [Nat.and_comm]
  simp

/-- `keepMin` at a position: bit `b` is clear and the larger does not go first, or neither. -/
theorem keepMin_apply (st : ℕ) (hst : st < 16) (b : Fin 16) (p : Fin (2 ^ 16)) :
    keepMin st b (entry p) = BitVec.ofBool (decide (p.val &&& 2 ^ b.1 = 0) ^^ larger 16 st p) := by
  have hp : p.val < 65536 := p.isLt
  show (BitVec.ofBool (posIdx (entry p) &&& BitVec.ofNat 32 (2 ^ b.1) == 0#32) ^^^ upMask st (entry p)) ^^^ 1#1 = _
  have h : (posIdx (entry p) &&& BitVec.ofNat 32 (2 ^ b.1) == 0#32) = decide (p.val &&& 2 ^ b.1 = 0) := by
    rw [posIdx_apply, posOf_entry, Bool.eq_iff_iff, beq_iff_eq, and_word _ _ (by omega) (by omega), decide_eq_true_eq]
  rw [h, upMask_apply st hst]
  unfold larger
  cases decide (p.val &&& 2 ^ b.1 = 0) <;> cases decide (p.val &&& 2 ^ (st + 1) = 0) <;> rfl

/-- The three numbers that the network carries at a position, the key first. -/
abbrev Row := EReal × EReal × EReal

/-- The rows of three arrays, by position. -/
def rows (s : Arrays Ideal) (p : Fin (2 ^ 16)) : Row := (s.k (entry p), s.ev (entry p), s.h (entry p))

/-- One step is one stage of the network on the rows. -/
theorem rows_step (st : ℕ) (hst : st < 16) (b : Fin 16) (hb : b.1 ≤ st) (s : Arrays Ideal) :
    rows (step st b s) = SortNet.Network.applyBy Prod.fst (SortNet.stage 16 b.1 (larger 16 st)) (rows s) := by
  funext p
  rw [applyBy_stage Prod.fst b.2 _ (larger_partner b.2 hb)]
  have hk := partner_apply b s.k p
  have he := partner_apply b s.ev p
  have hh := partner_apply b s.h p
  have htake : takeMask st b (partner b s.k) s.k (entry p) =
      BitVec.ofBool (if (decide (p.val &&& 2 ^ b.1 = 0) ^^ larger 16 st p) = true
        then decide (s.k (entry (SortNet.partner 16 b.1 p)) < s.k (entry p))
        else decide (s.k (entry p) < s.k (entry (SortNet.partner 16 b.1 p)))) := by
    show (keepMin st b (entry p) &&& BitVec.ofBool (decide (partner b s.k (entry p) < s.k (entry p)))) |||
      ((keepMin st b (entry p) ^^^ 1#1) &&& BitVec.ofBool (decide (s.k (entry p) < partner b s.k (entry p)))) = _
    rw [keepMin_apply st hst, hk]
    cases (decide (p.val &&& 2 ^ b.1 = 0) ^^ larger 16 st p) <;>
      cases decide (s.k (entry (SortNet.partner 16 b.1 p)) < s.k (entry p)) <;>
      cases decide (s.k (entry p) < s.k (entry (SortNet.partner 16 b.1 p))) <;> rfl
  show (Scalar.select (takeMask st b (partner b s.k) s.k (entry p)) (partner b s.k (entry p)) (s.k (entry p)),
    Scalar.select (takeMask st b (partner b s.k) s.k (entry p)) (partner b s.ev (entry p)) (s.ev (entry p)),
    Scalar.select (takeMask st b (partner b s.k) s.k (entry p)) (partner b s.h (entry p)) (s.h (entry p))) = _
  rw [htake, hk, he, hh]
  have hsel : ∀ (c : Bool) (a a' : EReal), Scalar.select (BitVec.ofBool c) a a' = if c = true then a else a' := by
    intro c a a'; cases c <;> rfl
  simp only [hsel]
  unfold rows
  split
  · by_cases h : s.k (entry (SortNet.partner 16 b.1 p)) < s.k (entry p) <;> simp [h]
  · by_cases h : s.k (entry p) < s.k (entry (SortNet.partner 16 b.1 p)) <;> simp [h]

/-- The steps of one stage. -/
theorem rows_steps (st : ℕ) (hst : st < 16) (n : ℕ) (hn : n ≤ st + 1) (s : Arrays Ideal) :
    rows (steps st n s) = SortNet.Network.applyBy Prod.fst
      ((List.range n).reverse.flatMap fun d => SortNet.stage 16 d (larger 16 st)) (rows s) := by
  induction n generalizing s with
  | zero => rfl
  | succ n ih =>
    have hb : (Fin.ofNat 16 n).val = n := Nat.mod_eq_of_lt (by omega)
    rw [steps, ih (by omega), rows_step st hst _ (by omega), List.range_succ, List.reverse_append,
      List.reverse_singleton, List.singleton_append, List.flatMap_cons, SortNet.Network.applyBy_append, hb]

/-- The first `n` stages. -/
theorem rows_stages (n : ℕ) (hn : n ≤ 16) (s : Arrays Ideal) :
    rows (stages n s) = SortNet.Network.applyBy Prod.fst (SortNet.levelsNet 16 false n) (rows s) := by
  induction n with
  | zero => rfl
  | succ n ih =>
    rw [stages, rows_steps n (by omega) _ (le_refl _), ih (by omega), SortNet.levelsNet_succ, SortNet.Network.applyBy_append]
    rfl

/-- After all stages one rearrangement of the positions has moved all three arrays, and the keys ascend. -/
theorem sorted_stages (s : Arrays Ideal) :
    ∃ σ : Equiv.Perm (Fin (2 ^ 16)),
      (∀ p, (stages 16 s).k (entry p) = s.k (entry (σ p)) ∧ (stages 16 s).ev (entry p) = s.ev (entry (σ p)) ∧
        (stages 16 s).h (entry p) = s.h (entry (σ p))) ∧
      Monotone fun p => s.k (entry (σ p)) := by
  have h := rows_stages 16 (le_refl _) s
  rw [← SortNet.sortNet_eq_levelsNet] at h
  obtain ⟨σ, hσ⟩ := sortNet_perm (Prod.fst : Row → EReal) 16 (rows s)
  have hm := sortNet_sorted (Prod.fst : Row → EReal) 16 (rows s)
  rw [hσ] at h hm
  refine ⟨σ, fun p => ?_, hm⟩
  have hp := congrFun h p
  exact ⟨congrArg Prod.fst hp, congrArg (fun r => r.2.1) hp, congrArg (fun r => r.2.2) hp⟩

end Cert.Proof

end
-- ==== Proof.Sums.lean ====
/- Running sums of extended reals over a finite range, and a running sum as a sliding window of the whole length
   computes it. -/
module

public import Idealize.ShloMosaic.PureOps.Ideal.Laws
public import Idealize.ShloMosaic.Lib.ValueIdx
public import Idealize.ShloMosaic.Lib.Routing.Ops
public import Mathlib.Data.List.FinRange
public import Mathlib.Data.List.Sort

@[expose] public section

noncomputable section

namespace Cert.Proof

open Idealize.ShloMosaic Idealize.ShloMosaic.ValueIdx
open scoped BigOperators

/-- The sum of the terms up to and including `p`. -/
def prefixSum {n : ℕ} (f : Fin n → EReal) (p : Fin n) : EReal := ∑ q, if q ≤ p then f q else 0

/-- A term by its number, zero past the end. -/
def extend {n : ℕ} (f : Fin n → EReal) (i : ℕ) : EReal := if h : i < n then f ⟨i, h⟩ else 0

/-- The running sum as a sum over an initial range of numbers. -/
theorem prefixSum_eq_range {n : ℕ} (f : Fin n → EReal) (p : Fin n) :
    prefixSum f p = ∑ i ∈ Finset.range (p.val + 1), extend f i := by
  have h1 : prefixSum f p = ∑ q : Fin n, (fun i => if i ≤ p.val then extend f i else 0) q.val := by
    unfold prefixSum
    refine Finset.sum_congr rfl fun q _ => ?_
    by_cases h : q ≤ p
    · rw [if_pos h]
      exact ((if_pos (show q.val ≤ p.val from h)).trans
        (show extend f q.val = f q from dif_pos q.isLt)).symm
    · rw [if_neg h]
      exact (if_neg (show ¬ q.val ≤ p.val from h)).symm
  rw [h1, Fin.sum_univ_eq_sum_range (fun i => if i ≤ p.val then extend f i else 0) n, ← Finset.sum_filter]
  refine Finset.sum_congr (Finset.ext fun i => ?_) fun _ _ => rfl
  have := p.isLt
  rw [Finset.mem_filter, Finset.mem_range, Finset.mem_range]
  omega

/-- A left fold of additions is the start plus the sum. -/
theorem foldl_add_eq {ι : Type} (l : List ι) (g : ι → EReal) (a : EReal) :
    l.foldl (fun r i => r + g i) a = a + (l.map g).sum := by
  induction l generalizing a with
  | nil => simp
  | cons i l ih => rw [List.foldl_cons, ih, List.map_cons, List.sum_cons, add_assoc]

/-- A window of the whole length, padded in front by one less, summed: the running sum. -/
theorem window_prefixSum {m : ℕ} (x : (⟨1, ![m + 1]⟩ : Shape).Idx → EReal)
    (h : (⟨1, ![m + 1]⟩ : Shape).ReduceWindows (![m + 1] : Fin 1 → ℕ) ![1] ![m] ![0] ⟨1, ![m + 1]⟩) (p : Fin (m + 1)) :
    Ideal.hostReduceWindowAdd ![m + 1] ![1] ![m] ![0] h x 0 (ix1 p) = prefixSum (fun q => x (ix1 q)) p := by
  have hp := p.isLt
  unfold Ideal.hostReduceWindowAdd Host.reduceWindow
  dsimp only
  rw [foldl_add_eq, zero_add, ← Fin.sum_univ_def]
  refine (Finset.sum_congr rfl (g := fun n => (fun i : ℕ =>
    if m ≤ p.val + i then extend (fun q => x (ix1 q)) (p.val + i - m) else 0) n.val) fun n _ => ?_).trans ?_
  · have hn : n.val < m + 1 := (n.cast (Routing.numel1 _)).isLt
    have hw : ((⟨1, ![m + 1]⟩ : Shape).rowMajor.symm n 0).val = n.val := by rw [Routing.symm1]; rfl
    by_cases hm : m ≤ p.val + n.val
    · refine (dif_pos ?_).trans ?_
      · intro a
        match a with
        | ⟨0, _⟩ =>
          show m ≤ p.val * 1 + ((⟨1, ![m + 1]⟩ : Shape).rowMajor.symm n 0).val ∧
            p.val * 1 + ((⟨1, ![m + 1]⟩ : Shape).rowMajor.symm n 0).val - m < m + 1
          rw [hw]
          omega
      · refine Eq.trans ?_ (if_pos hm).symm
        rw [extend, dif_pos (by omega)]
        refine congrArg x (funext fun a => Fin.ext ?_)
        match a with
        | ⟨0, _⟩ =>
          show p.val * 1 + ((⟨1, ![m + 1]⟩ : Shape).rowMajor.symm n 0).val - m = p.val + n.val - m
          rw [hw, Nat.mul_one]
    · refine (dif_neg fun hin => ?_).trans (if_neg hm).symm
      have h0 := (hin 0).1
      change m ≤ p.val * 1 + ((⟨1, ![m + 1]⟩ : Shape).rowMajor.symm n 0).val at h0
      rw [hw] at h0
      omega
  rw [Fin.sum_univ_eq_sum_range (fun i : ℕ => if m ≤ p.val + i then extend (fun q => x (ix1 q)) (p.val + i - m) else 0),
    prefixSum_eq_range, show Shape.numel ⟨1, ![m + 1]⟩ = (m - p.val) + (p.val + 1) by rw [Routing.numel1]; omega,
    Finset.sum_range_add, Finset.sum_eq_zero, zero_add]
  · refine Finset.sum_congr rfl fun i _ => ?_
    rw [if_pos (by omega)]
    congr 1
    omega
  · intro i hi
    rw [Finset.mem_range] at hi
    rw [if_neg (by omega)]

/-- The largest of finitely many extended reals does not depend on their order. -/
theorem fold_max_perm {ι κ : Type} [Fintype ι] [Fintype κ] (e : ι ≃ κ) (f : κ → EReal) :
    (Finset.univ : Finset ι).fold max ⊥ (fun i => f (e i)) = (Finset.univ : Finset κ).fold max ⊥ f := by
  show Finset.univ.sup (fun i => f (e i)) = Finset.univ.sup f
  rw [Finset.sup_univ_eq_iSup, Finset.sup_univ_eq_iSup]
  exact e.iSup_comp (g := f)

/-- Two rearrangements of the same numbers that are both sorted are the same list. -/
theorem sorted_unique {n : ℕ} (f : Fin n → EReal) (σ τ : Equiv.Perm (Fin n)) (hσ : Monotone fun p => f (σ p))
    (hτ : Monotone fun p => f (τ p)) (p : Fin n) : f (σ p) = f (τ p) := by
  have h : (fun p => f (σ p)) = fun p => f (τ p) := List.ofFn_injective
    (((σ.ofFn_comp_perm f).trans (τ.ofFn_comp_perm f).symm).eq_of_pairwise' hσ.sortedLE_ofFn.pairwise
      hτ.sortedLE_ofFn.pairwise)
  exact congrFun h p

end Cert.Proof

end
-- ==== Proof.Loss.lean ====
/- The loss as the two programs write it, over extended reals. -/
module

public import proofs.«01_k».proof.Proof.Sums

@[expose] public section

noncomputable section

namespace Cert.Proof

open Idealize.ShloMosaic
open scoped BigOperators

/-- The small constant both programs add, the value of its float word. -/
def eps : EReal := Ideal.ofBits .f32 0x358637BD#32

/-- The largest entry. -/
def largest {ι : Type} [Fintype ι] (y : ι → EReal) : EReal := (Finset.univ : Finset ι).fold max ⊥ y

/-- The reference's loss of the log hazards `y` and the events `e`, both already in the order of time. -/
def refLoss {n : ℕ} (y e : Fin n → EReal) : EReal :=
  Ideal.div
    (-(0 + ∑ p, (y p - (Ideal.log (prefixSum (fun q => Ideal.exp (y q - largest y)) p + eps) + largest y)) * e p))
    (0 + ∑ p, e p + eps)

/-- The kernel's loss: the sums of the events and of events times log hazards in any order, the logarithms' sum in the
    order of time. -/
def kernLoss {n : ℕ} (y e : Fin n → EReal) : EReal :=
  Ideal.div
    (0 - ((∑ p, e p * y p) - (∑ p, e p * Ideal.log (prefixSum (fun q => Ideal.exp (y q - largest y)) p + eps)) -
      largest y * ∑ p, e p))
    (∑ p, e p + eps)

/-- A sum of reals, taken among the extended reals. -/
theorem coe_sum {n : ℕ} (f : Fin n → ℝ) : ((∑ p, f p : ℝ) : EReal) = ∑ p, (f p : EReal) :=
  map_sum (⟨⟨Real.toEReal, EReal.coe_zero⟩, EReal.coe_add⟩ : ℝ →+ EReal) f Finset.univ

/-- The small constant is a positive real. -/
theorem eps_real : ∃ r : ℝ, 0 < r ∧ eps = (r : EReal) := by
  unfold eps
  simp only [Ideal.ofBits, Ideal.ieee]
  simp [-EReal.coe_mul]

/-- The largest of finitely many entries, at least one, is one of them. -/
theorem largest_mem {n : ℕ} (hn : 0 < n) (y : Fin n → EReal) : ∃ p, largest y = y p := by
  obtain ⟨p, _, hp⟩ := Finset.exists_mem_eq_sup (Finset.univ : Finset (Fin n)) ⟨⟨0, hn⟩, Finset.mem_univ _⟩ y
  exact ⟨p, hp⟩

/-- Where every entry is a real, the logarithm of a running sum of exponentials is a real. -/
theorem log_real {n : ℕ} (y : Fin n → ℝ) (m : ℝ) (p : Fin n) :
    ∃ r : ℝ, Ideal.log (prefixSum (fun q => Ideal.exp ((y q : EReal) - (m : EReal))) p + eps) = (r : EReal) := by
  obtain ⟨ε, hε, he⟩ := eps_real
  have hs : prefixSum (fun q => Ideal.exp ((y q : EReal) - (m : EReal))) p =
      ((∑ q, if q ≤ p then Real.exp (y q - m) else 0 : ℝ) : EReal) := by
    rw [coe_sum]
    unfold prefixSum
    refine Finset.sum_congr rfl fun q _ => ?_
    split
    · exact congrArg Ideal.exp (EReal.coe_sub _ _).symm
    · rfl
  have hpos : (0 : ℝ) ≤ ∑ q, if q ≤ p then Real.exp (y q - m) else 0 :=
    Finset.sum_nonneg fun q _ => by
      split
      · exact (Real.exp_pos _).le
      · exact le_refl 0
  refine ⟨Real.log ((∑ q, if q ≤ p then Real.exp (y q - m) else 0) + ε), ?_⟩
  rw [hs, he, ← EReal.coe_add]
  exact if_neg (not_le.mpr (add_pos_of_nonneg_of_pos hpos hε))

/-- A sum with an infinite term is infinite. -/
theorem sum_infinite {n : ℕ} (e : Fin n → EReal) (h : ∃ p, e p = ⊤ ∨ e p = ⊥) : ∑ p, e p = ⊤ ∨ ∑ p, e p = ⊥ := by
  obtain ⟨p, hp⟩ := h
  rw [← Finset.add_sum_erase Finset.univ e (Finset.mem_univ p)]
  rcases hp with hp | hp
  · rw [hp]
    by_cases hb : ∑ q ∈ Finset.univ.erase p, e q = ⊥
    · exact Or.inr (by rw [hb, EReal.add_bot])
    · exact Or.inl (EReal.top_add_of_ne_bot hb)
  · exact Or.inr (by rw [hp, EReal.bot_add])

/-- A quotient whose denominator is infinite is zero. -/
theorem div_infinite (x s : EReal) (h : s = ⊤ ∨ s = ⊥) : Ideal.div x (s + eps) = 0 := by
  obtain ⟨ε, _, he⟩ := eps_real
  unfold Ideal.div
  rcases h with rfl | rfl
  · rw [he, EReal.top_add_coe, if_neg EReal.top_ne_zero, EReal.inv_top, mul_zero]
  · rw [EReal.bot_add, if_neg EReal.bot_ne_zero, EReal.inv_bot, mul_zero]

/-- Where every log hazard is a real, the two losses are one: where an event is infinite both are zero. -/
theorem losses_eq {n : ℕ} (hn : 0 < n) (y e : Fin n → EReal) (hy : ∀ p, y p ≠ ⊤ ∧ y p ≠ ⊥) :
    kernLoss y e = refLoss y e := by
  by_cases he : ∃ p, e p = ⊤ ∨ e p = ⊥
  · have h := sum_infinite e he
    unfold kernLoss refLoss
    rw [zero_add (∑ p, e p), div_infinite _ _ h, div_infinite _ _ h]
  have he : ∀ p, e p ≠ ⊤ ∧ e p ≠ ⊥ := fun p => not_or.mp fun h => he ⟨p, h⟩
  obtain ⟨y, rfl⟩ : ∃ y' : Fin n → ℝ, y = fun p => (y' p : EReal) :=
    ⟨fun p => (y p).toReal, funext fun p => (EReal.coe_toReal (hy p).1 (hy p).2).symm⟩
  obtain ⟨e, rfl⟩ : ∃ e' : Fin n → ℝ, e = fun p => (e' p : EReal) :=
    ⟨fun p => (e p).toReal, funext fun p => (EReal.coe_toReal (he p).1 (he p).2).symm⟩
  obtain ⟨q, hq⟩ := largest_mem hn fun p => (y p : EReal)
  choose L hL using log_real y (y q)
  unfold kernLoss refLoss
  rw [hq]
  simp only [hL]
  simp only [zero_add, ← EReal.coe_mul, ← EReal.coe_add, ← EReal.coe_sub, ← coe_sum, ← EReal.coe_neg]
  rw [← EReal.coe_zero, ← EReal.coe_sub]
  congr 2
  rw [zero_sub, neg_inj, ← Finset.sum_sub_distrib, Finset.mul_sum, ← Finset.sum_sub_distrib]
  exact Finset.sum_congr rfl fun p _ => by ring

/-- The running sums along two sorting orders agree at a position where the summed numbers are equal among the entries
    whose key ties with that position's. -/
theorem prefixSum_sorted {n : ℕ} (t f : Fin n → EReal) (σ τ : Equiv.Perm (Fin n)) (hσ : Monotone fun p => t (σ p))
    (hτ : Monotone fun p => t (τ p)) (p : Fin n) (c : EReal) (hc : ∀ j, t j = t (σ p) → f j = c) :
    prefixSum (fun q => f (σ q)) p = prefixSum (fun q => f (τ q)) p := by
  have hp : t (σ p) = t (τ p) := sorted_unique t σ τ hσ hτ p
  have split : ∀ ρ : Equiv.Perm (Fin n), (Monotone fun p => t (ρ p)) → t (ρ p) = t (σ p) →
      prefixSum (fun q => f (ρ q)) p =
        (∑ i, if t i < t (σ p) then f i else 0) + ∑ q, if q ≤ p ∧ t (ρ q) = t (σ p) then c else 0 := by
    intro ρ hρ hρp
    rw [← Equiv.sum_comp ρ fun i => if t i < t (σ p) then f i else 0, ← Finset.sum_add_distrib]
    refine Finset.sum_congr rfl fun q _ => ?_
    by_cases hq : q ≤ p
    · rw [if_pos hq]
      rcases (hρp ▸ hρ hq : t (ρ q) ≤ t (σ p)).lt_or_eq with h | h
      · rw [if_pos h, if_neg fun h' => h.ne h'.2, add_zero]
      · rw [if_neg h.not_lt, if_pos ⟨hq, h⟩, zero_add]
        exact hc _ h
    · have h : t (σ p) ≤ t (ρ q) := hρp ▸ hρ (le_of_not_ge hq)
      rw [if_neg hq, if_neg h.not_gt, if_neg fun h' => hq h'.1, add_zero]
  rw [split σ hσ rfl, split τ hτ hp.symm]
  simp only [sorted_unique t σ τ hσ hτ]

/-- The kernel's loss along one sorting order is the reference's along another, where the log hazards are reals and, of
    any two entries with the same time, either both agree or neither is an event. -/
theorem loss_sorted {n : ℕ} (hn : 0 < n) (t y e : Fin n → EReal) (σ τ : Equiv.Perm (Fin n))
    (hσ : Monotone fun p => t (σ p)) (hτ : Monotone fun p => t (τ p)) (hy : ∀ p, y p ≠ ⊤ ∧ y p ≠ ⊥)
    (ht : ∀ i j, t i = t j → (y i = y j ∧ e i = e j) ∨ (e i = 0 ∧ e j = 0)) :
    kernLoss (fun p => y (σ p)) (fun p => e (σ p)) = refLoss (fun p => y (τ p)) (fun p => e (τ p)) := by
  rw [losses_eq hn _ _ fun p => hy (σ p)]
  have hmax : (largest fun p => y (σ p)) = largest fun p => y (τ p) :=
    (fold_max_perm σ y).trans (fold_max_perm τ y).symm
  have hsum : ∑ p, e (σ p) = ∑ p, e (τ p) := (Equiv.sum_comp σ e).trans (Equiv.sum_comp τ e).symm
  unfold refLoss
  rw [hmax, hsum]
  congr 3
  refine Finset.sum_congr rfl fun p _ => ?_
  beta_reduce
  rcases ht _ _ (sorted_unique t σ τ hσ hτ p) with ⟨h1, h2⟩ | ⟨h1, h2⟩
  · by_cases h0 : e (σ p) = 0
    · rw [← h2, h0, mul_zero, mul_zero]
    · rw [h1, h2, prefixSum_sorted t (fun i => Ideal.exp (y i - largest fun p => y (τ p))) σ τ hσ hτ p
        (Ideal.exp (y (σ p) - largest fun p => y (τ p))) fun j hj => ?_]
      rcases ht _ _ hj with ⟨h, _⟩ | ⟨_, h⟩
      · simp only [h]
      · exact absurd h h0
  · rw [h1, h2, mul_zero, mul_zero]

end Cert.Proof

end
-- ==== Proof.KernelValue.lean ====
/- The kernel's sums, maximum and running sums over the extended reals, read along the sorting order, and its result as
   the loss of the entries in that order. -/
module

public import proofs.«01_k».proof.Proof.Positions
public import proofs.«01_k».proof.Proof.Loss
public import Idealize.ShloMosaic.PureOps.Ideal.Laws
public import Idealize.ShloMosaic.Lib.MatmulPlain
public import Idealize.ShloMosaic.Lib.Pointwise

@[expose] public section

noncomputable section

namespace Cert.Proof

open Idealize.ShloMosaic Cert.KernelIdeal Cert.KernelIdeal.Facts₀ Idealize.ShloMosaic.Pointwise
open scoped BigOperators

/-- A sum over the entries is the sum over the positions. -/
theorem sum_entries (x : S512x128.Idx → EReal) : ∑ i, x i = ∑ p, x (entry p) := (entryEquiv.sum_comp x).symm

/-- The sum of all entries, by position. -/
theorem sumAll_eq (x : FVec Ideal S512x128 .f32) : sumAll x = (∑ p, x (entry p) : EReal) := by
  rw [← sum_entries]
  unfold sumAll extractAt
  refine (Ideal.multiReduction_add_total _ _ _ (by decide) _ _ _).trans ?_
  exact (Shape.reshapeEquiv shapeCasts_S512x128_S1x512x128).sum_comp x

/-- The largest of all entries, by position. -/
theorem maxAll_eq (x : FVec Ideal S512x128 .f32) : maxAll x = (largest fun p => (x (entry p) : EReal)) := by
  unfold maxAll extractAt
  have hbot : FloatOps.ofBits (F := Ideal) .f32 0xFF800000#32 = (⊥ : EReal) := by
    show Ideal.ofBits .f32 0xFF800000#32 = ⊥
    simp [Ideal.ofBits, Ideal.ieee]
  refine (multiReduction_maximumf_eq_fold _ _ _ _ _ _).trans ?_
  rw [hbot, Finset.filter_true_of_mem fun j _ => funext fun a => by
    match a with
    | ⟨0, _⟩ => exact Subsingleton.elim (α := Fin 1) _ _]
  exact (fold_max_perm (Shape.reshapeEquiv shapeCasts_S512x128_S1x512x128) fun i => (x i : EReal)).trans
    (fold_max_perm entryEquiv fun i => (x i : EReal)).symm

/-- The words of two small numbers compare as the numbers do. -/
theorem sle_word (a b : ℕ) (ha : a < 2 ^ 31) (hb : b < 2 ^ 31) :
    IntOp.cmpi .sle (BitVec.ofNat 32 a) (BitVec.ofNat 32 b) = BitVec.ofBool (decide (a ≤ b)) := by
  have ea : (BitVec.ofNat 32 a).toInt = a := by rw [BitVec.toInt_ofNat']; exact Int.bmod_eq_of_le (by omega) (by omega)
  have eb : (BitVec.ofNat 32 b).toInt = b := by rw [BitVec.toInt_ofNat']; exact Int.bmod_eq_of_le (by omega) (by omega)
  show BitVec.ofBool ((BitVec.ofNat 32 a).sle (BitVec.ofNat 32 b)) = _
  rw [BitVec.sle, ea, eb]
  simp

/-- The words of two small numbers compare strictly as the numbers do. -/
theorem slt_word (a b : ℕ) (ha : a < 2 ^ 31) (hb : b < 2 ^ 31) :
    IntOp.cmpi .slt (BitVec.ofNat 32 a) (BitVec.ofNat 32 b) = BitVec.ofBool (decide (a < b)) := by
  have ea : (BitVec.ofNat 32 a).toInt = a := by rw [BitVec.toInt_ofNat']; exact Int.bmod_eq_of_le (by omega) (by omega)
  have eb : (BitVec.ofNat 32 b).toInt = b := by rw [BitVec.toInt_ofNat']; exact Int.bmod_eq_of_le (by omega) (by omega)
  show BitVec.ofBool ((BitVec.ofNat 32 a).slt (BitVec.ofNat 32 b)) = _
  rw [BitVec.slt, ea, eb]
  simp

/-- A choice between one and zero. -/
theorem select_one_zero (b : Prop) [Decidable b] :
    Scalar.select (BitVec.ofBool (decide b)) (FloatOps.ofBits (F := Ideal) .f32 0x3F800000#32)
      (FloatOps.ofBits (F := Ideal) .f32 0x00000000#32) = (if b then (1 : EReal) else 0) := by
  have h1 : FloatOps.ofBits (F := Ideal) .f32 0x3F800000#32 = (1 : EReal) := Ideal.ofBits_one_f32
  have h0 : FloatOps.ofBits (F := Ideal) .f32 0x00000000#32 = (0 : EReal) := Ideal.ofBits_zero_f32
  rw [h1, h0]
  unfold Scalar.select
  by_cases h : b <;> simp [h]

/-- The lower triangle of ones, at an entry. -/
theorem lower_apply (r k : Fin 512) : lower (F := Ideal) (ix2 r k) = (if k ≤ r then (1 : EReal) else 0) := by
  have hr := r.isLt
  have hk := k.isLt
  show Scalar.select (IntOp.cmpi .sle (BitVec.ofNat 32 (0 * 512 + k.val)) (BitVec.ofNat 32 (0 * 512 + r.val)))
    (FloatOps.ofBits (F := Ideal) .f32 0x3F800000#32) (FloatOps.ofBits (F := Ideal) .f32 0x00000000#32) = _
  rw [sle_word _ _ (by omega) (by omega), select_one_zero, Nat.zero_mul, Nat.zero_add, Nat.zero_add]
  rfl

/-- The strict upper triangle of ones, at an entry. -/
theorem strictUpper_apply (k c : Fin 128) : strictUpper (F := Ideal) (ix2 k c) = (if k < c then (1 : EReal) else 0) := by
  have hr := c.isLt
  have hk := k.isLt
  show Scalar.select (IntOp.cmpi .slt (BitVec.ofNat 32 (0 * 128 + k.val)) (BitVec.ofNat 32 (0 * 128 + c.val)))
    (FloatOps.ofBits (F := Ideal) .f32 0x3F800000#32) (FloatOps.ofBits (F := Ideal) .f32 0x00000000#32) = _
  rw [slt_word _ _ (by omega) (by omega), select_one_zero, Nat.zero_mul, Nat.zero_add, Nat.zero_add]
  rfl

/-- The zero constant is zero at every entry. -/
theorem zero_const {s : Shape} (i : s.Idx) : constant (F := Ideal) s .f32 0x00000000#32 i = (0 : EReal) :=
  Ideal.ofBits_zero_f32

/-- The running sums down a column. -/
theorem colPrefix_apply (h : FVec Ideal S512x128 .f32) (r : Fin 512) (c : Fin 128) :
    colPrefix h (ix2 r c) = (∑ k : Fin 512, if k ≤ r then (h (ix2 k c) : EReal) else 0) := by
  unfold colPrefix
  have := fun (l : FVec Ideal S512x512 .f32) => show
    matmul dot_S512x512_S512x128_S512x128_1_0_0_1_n_n none l h (constant S512x128 .f32 0x00000000#32) (ix2 r c) =
      (∑ k : Fin 512, l (ix2 r k) * h (ix2 k c) : EReal) from by
    simp only [pointwise]
    rw [zero_add]
  rw [this]
  refine Finset.sum_congr rfl fun k _ => ?_
  rw [lower_apply]
  split
  · exact one_mul _
  · exact zero_mul _

/-- The sum of the columns before a column. -/
theorem colOffset_apply (p : FVec Ideal S512x128 .f32) (c : Fin 128) :
    colOffset p (ix2 0 c) = (∑ k : Fin 128, if k < c then (p (ix2 511 k) : EReal) else 0) := by
  unfold colOffset
  have := fun (l : FVec Ideal S1x128 .f32) (u : FVec Ideal S128x128 .f32) => show
    matmul dot_S1x128_S128x128_S1x128_1_0_0_1_n_n none l u (constant S1x128 .f32 0x00000000#32) (ix2 0 c) =
      (∑ k : Fin 128, l (ix2 0 k) * u (ix2 k c) : EReal) from by
    simp only [pointwise]
    rw [zero_add]
  rw [this]
  refine Finset.sum_congr rfl fun k _ => ?_
  rw [strictUpper_apply, Pointwise.extractStridedSlice_apply]
  have hi : (fun a : Fin 2 => (⟨(![511, 0] : Fin 2 → ℕ) a + ((ix2 (0 : Fin 1) k : S1x128.Idx) a).val, by
      match a with
      | ⟨0, _⟩ => exact (by decide : 511 + 0 < 512)
      | ⟨1, _⟩ => exact (by have := k.isLt; show 0 + k.val < 128; omega)⟩ : Fin (S512x128.size a))) = ix2 (511 : Fin 512) k := by
    funext a
    match a with
    | ⟨0, _⟩ => rfl
    | ⟨1, _⟩ => exact Fin.ext (Nat.zero_add _)
  split
  · refine (mul_one _).trans (congrArg p ?_)
    exact hi
  · exact mul_zero _

/-- The kernel's two-level running sum is the running sum along the sorting order. -/
theorem prefixAll_apply (h : FVec Ideal S512x128 .f32) (p : Fin (2 ^ 16)) :
    prefixAll h (entry p) = prefixSum (fun q => (h (entry q) : EReal)) p := by
  obtain ⟨r, c, hrc⟩ : ∃ (r : Fin 512) (c : Fin 128), entry p = ix2 r c := ⟨_, _, rfl⟩
  have hp : p.val = c.val * 512 + r.val := by
    rw [← posOf_entry p, hrc]
    rfl
  have hb : broadcastTo S512x128 (colOffset (colPrefix h)) broadcasts_S1x128_S512x128 (ix2 r c) =
      colOffset (colPrefix h) (ix2 0 c) := by
    refine congrArg (colOffset (colPrefix h)) (funext fun a => ?_)
    match a with
    | ⟨0, _⟩ => rfl
    | ⟨1, _⟩ => rfl
  have hl : prefixAll h (ix2 r c) = ((∑ k : Fin 512, if k ≤ r then (h (ix2 k c) : EReal) else 0) +
      ∑ k : Fin 128, if k < c then ∑ j : Fin 512, (h (ix2 j k) : EReal) else 0) := by
    show (colPrefix h (ix2 r c) + broadcastTo S512x128 (colOffset (colPrefix h)) broadcasts_S1x128_S512x128 (ix2 r c) : EReal) = _
    rw [hb, colPrefix_apply, colOffset_apply]
    congr 1
    refine Finset.sum_congr rfl fun k _ => ?_
    congr 1
    rw [colPrefix_apply]
    refine Finset.sum_congr rfl fun j _ => if_pos ?_
    have := j.isLt
    show j.val ≤ 511
    omega
  have hr : prefixSum (fun q => (h (entry q) : EReal)) p =
      ∑ b : Fin 128, ∑ a : Fin 512, if b.val * 512 + a.val ≤ p.val then (h (ix2 a b) : EReal) else 0 := by
    rw [Finset.sum_comm]
    unfold prefixSum
    refine Eq.trans ?_ (sum_idx2 (n0 := 512) (n1 := 128)
      fun i => if (posOf i).val ≤ p.val then (h i : EReal) else 0)
    rw [← entryEquiv.sum_comp]
    refine Finset.sum_congr rfl fun q _ => ?_
    show _ = if (posOf (entry q)).val ≤ p.val then (h (entry q) : EReal) else 0
    rw [posOf_entry]
    rfl
  have hsplit : ∀ b : Fin 128, (∑ a : Fin 512, if b.val * 512 + a.val ≤ p.val then (h (ix2 a b) : EReal) else 0) =
      (if b = c then ∑ k : Fin 512, if k ≤ r then (h (ix2 k b) : EReal) else 0 else 0) +
        if b < c then ∑ j : Fin 512, (h (ix2 j b) : EReal) else 0 := by
    intro b
    have hr' := r.isLt
    rcases lt_trichotomy b c with hbc | hbc | hbc
    · have hv : b.val < c.val := hbc
      rw [if_neg hbc.ne, if_pos hbc, zero_add]
      refine Finset.sum_congr rfl fun a _ => if_pos ?_
      have := a.isLt
      omega
    · rw [if_pos hbc, if_neg (by rw [hbc]; exact lt_irrefl c), add_zero]
      refine Finset.sum_congr rfl fun a _ => ?_
      have : (b.val * 512 + a.val ≤ p.val) ↔ a ≤ r := by
        rw [hp, hbc, Fin.le_def]
        omega
      simp only [this]
    · have hv : c.val < b.val := hbc
      rw [if_neg hbc.ne', if_neg hbc.asymm, add_zero]
      refine Finset.sum_eq_zero fun a _ => if_neg ?_
      omega
  rw [hrc, hl, hr, Finset.sum_congr rfl fun b _ => hsplit b, Finset.sum_add_distrib, Finset.sum_ite_eq' Finset.univ c,
    if_pos (Finset.mem_univ c)]

/-- One exponential, over the extended reals. -/
theorem exp_shift (lh : FVec Ideal S512x128 .f32) (m : Ideal .f32) (i : S512x128.Idx) :
    exp (subf lh (broadcast S512x128 m)) i = (Ideal.exp (lh i - m : EReal) : EReal) := rfl

/-- The hazards before the network. -/
theorem initial_h (t e lh : FVec Ideal S512x128 .f32) (i : S512x128.Idx) :
    (initial t e lh).h i = (Ideal.exp (lh i - maxAll lh : EReal) : EReal) :=
  exp_shift lh (maxAll lh) i

/-- One term of the logarithms' sum, over the extended reals. -/
theorem log_ops (ev pre : FVec Ideal S512x128 .f32) (i : S512x128.Idx) :
    mulf ev (log (addf pre (broadcast S512x128 (Scalar.ofBits .f32 0x358637BD#32)))) i =
      (ev i * Ideal.log (pre i + eps) : EReal) := rfl

/-- The last operations, over the extended reals. -/
theorem loss_ops (a b c d : EReal) :
    lossOf (F := Ideal) a b c d = Ideal.div (0 - ((c - d) - a * b)) (b + eps) := by
  have h0 : Scalar.ofBits (F := Ideal) .f32 0x00000000#32 = (0 : EReal) := Ideal.ofBits_zero_f32
  unfold lossOf
  rw [h0]
  rfl

/-- The kernel's result: there is a rearrangement of the positions that sorts the times, and the result is the loss of
    the log hazards and events so rearranged. -/
theorem kernelOut_eq (t e lh : FVec Ideal S512x128 .f32) :
    ∃ σ : Equiv.Perm (Fin (2 ^ 16)), (Monotone fun p => (t (entry (σ p)) : EReal)) ∧
      kernelOut t e lh = kernLoss (fun p => (lh (entry (σ p)) : EReal)) (fun p => (e (entry (σ p)) : EReal)) := by
  obtain ⟨σ, hσ, hmono⟩ := sorted_stages (initial t e lh)
  refine ⟨σ, hmono, ?_⟩
  have hmax : maxAll lh = largest fun p => (lh (entry (σ p)) : EReal) := by
    rw [maxAll_eq]
    exact (fold_max_perm σ fun p => (lh (entry p) : EReal)).symm
  have hsum : sumAll e = (∑ p, e (entry (σ p)) : EReal) := by
    rw [sumAll_eq]
    exact (Equiv.sum_comp σ fun p => (e (entry p) : EReal)).symm
  have hmul : sumAll (mulf e lh) = (∑ p, e (entry (σ p)) * lh (entry (σ p)) : EReal) := by
    rw [sumAll_eq]
    exact (Equiv.sum_comp σ fun p => (e (entry p) * lh (entry p) : EReal)).symm
  have hh : ∀ q, (stages 16 (initial t e lh)).h (entry q) =
      Ideal.exp (lh (entry (σ q)) - largest fun p => (lh (entry (σ p)) : EReal) : EReal) := by
    intro q
    rw [(hσ q).2.2, initial_h, hmax]
  have hlog : logTerm (stages 16 (initial t e lh)).ev (stages 16 (initial t e lh)).h =
      (∑ p, e (entry (σ p)) * Ideal.log (prefixSum (fun q => Ideal.exp
        (lh (entry (σ q)) - largest fun p => (lh (entry (σ p)) : EReal) : EReal)) p + eps) : EReal) := by
    unfold logTerm
    rw [sumAll_eq]
    refine Finset.sum_congr rfl fun p _ => ?_
    rw [log_ops, prefixAll_apply]
    exact congrArg₂ (fun (a : EReal) f => a * Ideal.log (prefixSum f p + eps)) (hσ p).2.1 (funext hh)
  unfold kernelOut
  rw [hmax, hsum, hmul, hlog, loss_ops]
  rfl

end Cert.Proof

end
-- ==== Proof.Reference.lean ====
/- The reference's result over the extended reals: the loss of the entries put in the order of time. -/
module

public import Idealize.ShloMosaic.Lib.ValueIdxRank1
public import proofs.«01_k».proof.Proof.Gen.ReferenceIdeal.Read
public import proofs.«01_k».proof.Proof.Loss
public import Idealize.ShloMosaic.Lib.SortFacts
public import Idealize.ShloMosaic.Lib.Routing.OpsSearch
public import Idealize.ShloMosaic.Lib.Routing.OpsPair

@[expose] public section

set_option maxRecDepth 2000

noncomputable section

namespace Cert.Proof.Reference

open Idealize.ShloMosaic Idealize.ShloMosaic.ValueIdx Cert.ReferenceIdeal Cert.ReferenceIdeal.Gen Cert.ReferenceIdeal.Read Cert.Proof
open scoped BigOperators

/-- Replacing an entry equal to zero by zero changes nothing. -/
theorem zero_select (x z : EReal) (hz : z = 0) :
    Scalar.select (Ideal.cmp .oeq x z) z x = x := by
  subst hz
  unfold Scalar.select Ideal.cmp
  by_cases h : x = 0 <;> simp [h]

/-- No extended real differs from itself. -/
theorem nan_select (x z w : EReal) : Scalar.select (Ideal.cmp .une x x) z w = w := by
  unfold Scalar.select Ideal.cmp
  simp

/-- The sort's comparator is the order of the first components. -/
theorem comparator_eq (l r : EReal × BitVec 32) :
    comparator_f32_i32_d0 (F := Ideal) l r = BitVec.ofBool (decide (l.1 < r.1)) := by
  have hz : (FloatOps.ofBits (F := Ideal) .f32 0x00000000#32 : EReal) = 0 := Ideal.ofBits_zero_f32
  show Ideal.cmpTotal .lt
    (Scalar.select (Ideal.cmp .une l.1 l.1) _ (Scalar.select (Ideal.cmp .oeq l.1 _) _ l.1))
    (Scalar.select (Ideal.cmp .une r.1 r.1) _ (Scalar.select (Ideal.cmp .oeq r.1 _) _ r.1)) = _
  rw [nan_select, nan_select, zero_select _ _ hz, zero_select _ _ hz]
  rfl

/-- Whether one position's number is less than another's. -/
def before {n : ℕ} (key : Fin n → EReal) (k k' : Fin n) : Bool := decide (key k < key k')

/-- One place is before another where its key is smaller. -/
theorem before_true {n : ℕ} (key : Fin n → EReal) (k k' : Fin n) : before key k k' = true ↔ key k < key k' := by
  unfold before
  exact decide_eq_true_iff

/-- One place is not before another where its key is no smaller. -/
theorem before_false {n : ℕ} (key : Fin n → EReal) (k k' : Fin n) : before key k k' = false ↔ key k' ≤ key k := by
  unfold before
  rw [decide_eq_false_iff_not, not_lt]

/-- The rearrangement that sorts the numbers `key`. -/
def sortPerm {n : ℕ} (key : Fin n → EReal) : Equiv.Perm (Fin n) :=
  Equiv.ofBijective (sortedFrom (before key)) ⟨sortedFrom_injective _, sortedFrom_surjective _⟩

/-- Along the stable order the keys rise. -/
theorem sortPerm_monotone {n : ℕ} (key : Fin n → EReal) : Monotone fun p => key (sortPerm key p) := by
  intro i j hij
  rcases hij.eq_or_lt with h | h
  · rw [h]
  · exact (before_false _ _ _).mp (sortedFrom_noInversion (before key) (before key)
      (fun a b hab => (before_false _ _ _).mpr (le_of_lt ((before_true _ _ _).mp hab)))
      (fun _ _ h => h)
      (fun a b c hab hbc => (before_false _ _ _).mpr (((before_false _ _ _).mp hbc).trans ((before_false _ _ _).mp hab)))
      i j h)

/-- The second result of the sort of two rank-one arrays by a comparator that orders the first components, where the
    second array holds the positions: the sorting rearrangement. -/
theorem sort2_snd {n : ℕ} (cmp : EReal × BitVec 32 → EReal × BitVec 32 → BitVec 1)
    (hcmp : ∀ l r, cmp l r = BitVec.ofBool (decide (l.1 < r.1))) (x : (⟨1, ![n]⟩ : Shape).Idx → EReal)
    (y : (⟨1, ![n]⟩ : Shape).Idx → BitVec 32) (hy : ∀ p, y (ix1 p) = BitVec.ofNat 32 p.val) (p : Fin n) :
    (Host.sort2 ⟨1, ![n]⟩ 0 cmp x y).2 (ix1 p) = BitVec.ofNat 32 (sortPerm (fun p => x (ix1 p)) p).val := by
  have ha : ∀ k : Fin n, (ix1 p : (⟨1, ![n]⟩ : Shape).Idx).along ⟨0, Nat.one_pos⟩ k = ix1 k := fun k => by
    funext a
    match a with
    | ⟨0, _⟩ => rfl
  have hb : (fun k k' : Fin n => cmp
      (x ((ix1 p : (⟨1, ![n]⟩ : Shape).Idx).along ⟨0, Nat.one_pos⟩ k), y ((ix1 p : (⟨1, ![n]⟩ : Shape).Idx).along ⟨0, Nat.one_pos⟩ k))
      (x ((ix1 p : (⟨1, ![n]⟩ : Shape).Idx).along ⟨0, Nat.one_pos⟩ k'), y ((ix1 p : (⟨1, ![n]⟩ : Shape).Idx).along ⟨0, Nat.one_pos⟩ k')) == 1#1) =
      before fun p => x (ix1 p) := by
    funext k k'
    rw [hcmp, ha, ha]
    unfold before
    by_cases h : x (ix1 k) < x (ix1 k') <;> simp [h]
  show y ((ix1 p : (⟨1, ![n]⟩ : Shape).Idx).along ⟨0, Nat.one_pos⟩ (sortedFrom (fun k k' : Fin n => cmp
      (x ((ix1 p : (⟨1, ![n]⟩ : Shape).Idx).along ⟨0, Nat.one_pos⟩ k), y ((ix1 p : (⟨1, ![n]⟩ : Shape).Idx).along ⟨0, Nat.one_pos⟩ k))
      (x ((ix1 p : (⟨1, ![n]⟩ : Shape).Idx).along ⟨0, Nat.one_pos⟩ k'), y ((ix1 p : (⟨1, ![n]⟩ : Shape).Idx).along ⟨0, Nat.one_pos⟩ k')) == 1#1) p)) = _
  rw [hb]
  exact (congrArg y (ha _)).trans (hy _)

/-- Taking the entries of a table at the words of a rearrangement. -/
theorem take_perm {n : ℕ} (hn : n ≤ 2 ^ 31) (d : GatherDims ⟨1, ![n]⟩ ⟨2, ![n, 1]⟩ ⟨1, ![n]⟩)
    (hcoll : d.collapsedSliceDims = [0]) (hob : d.operandBatchingDims = []) (hsim : d.startIndexMap = [0])
    (hivd : d.indexVectorDim = 1) (x : (⟨1, ![n]⟩ : Shape).Idx → EReal) (idx : (⟨2, ![n, 1]⟩ : Shape).Idx → BitVec 32)
    (σ : Equiv.Perm (Fin n)) (hidx : ∀ p, idx (ix2 p 0) = BitVec.ofNat 32 (σ p).val) (p : Fin n) :
    Host.gather d x idx (ix1 p) = x (ix1 (σ p)) :=
  Routing.take_ap d hcoll hob hsim hivd x idx p (σ p).isLt ((σ p).isLt.trans_le hn) (hidx p)

/-- The largest entry of a rank-one array, in any order. -/
theorem fold_max_rank1 {n : ℕ} (v : (⟨1, ![n]⟩ : Shape).Idx → EReal) (w : Fin n → EReal) (h : ∀ p, v (ix1 p) = w p) :
    (Finset.univ : Finset (⟨1, ![n]⟩ : Shape).Idx).fold max ⊥ v = largest w := by
  rw [← fold_max_perm (idxEquiv1 (n := n)).symm v]
  exact congrArg (fun f => (Finset.univ : Finset (Fin n)).fold max ⊥ f) (funext h)

/-- The sum of a rank-one array. -/
theorem sum_rank1 {n : ℕ} (v : (⟨1, ![n]⟩ : Shape).Idx → EReal) (w : Fin n → EReal) (h : ∀ p, v (ix1 p) = w p) :
    ∑ j, v j = ∑ p, w p := by
  rw [← (idxEquiv1 (n := n)).symm.sum_comp v]
  exact Finset.sum_congr rfl fun p _ => h p

/-- The operations of one exponential, over the extended reals. -/
theorem exp_ops (a b : EReal) :
    FloatOps.hostUnary (F := Ideal) (φ := .f32) .exp (FloatOps.subf (F := Ideal) (φ := .f32) a b) = Ideal.exp (a - b) := rfl

/-- The operations of one term, over the extended reals. -/
theorem term_ops (a b c d : EReal) :
    FloatOps.mulf (F := Ideal) (φ := .f32) (FloatOps.subf (F := Ideal) (φ := .f32) a
      (FloatOps.addf (F := Ideal) (φ := .f32) (FloatOps.hostUnary (F := Ideal) (φ := .f32) .log
        (FloatOps.addf (F := Ideal) (φ := .f32) b (FloatOps.ofBits (F := Ideal) .f32 0x358637BD#32))) c)) d =
      (a - (Ideal.log (b + eps) + c)) * d := rfl

/-- The last operations, over the extended reals. -/
theorem quotient_ops (a b : EReal) :
    FloatOps.hostDivf (F := Ideal) (φ := .f32) (FloatOps.hostNegf (F := Ideal) (φ := .f32) a)
      (FloatOps.addf (F := Ideal) (φ := .f32) b (FloatOps.ofBits (F := Ideal) .f32 0x358637BD#32)) =
      Ideal.div (-a) (b + eps) := rfl

/-- The running sum of a rank-one array. -/
theorem cumsum_apply {n m : ℕ} (hn : n = m + 1) (x : FVec Ideal ⟨1, ![n]⟩ .f32) (init : FVec Ideal S_ .f32)
    (h : (⟨1, ![n]⟩ : Shape).ReduceWindows (![n] : Fin 1 → ℕ) ![1] ![m] ![0] ⟨1, ![n]⟩) (hu : 0 < S_.numel)
    (h0 : init (Shape.Idx.first hu) = (0 : EReal)) (p : Fin n) :
    Host.reduceWindowAdd ![n] ![1] ![m] ![0] x init h hu (ix1 p) = prefixSum (fun q => x (ix1 q)) p := by
  subst hn
  refine Eq.trans ?_ (window_prefixSum x h p)
  show Ideal.hostReduceWindowAdd ![m + 1] ![1] ![m] ![0] h x (init (Shape.Idx.first hu)) (ix1 p) = _
  rw [h0]

variable (x0 x1 x2 : (⟨S65536, .f32⟩ : BufTy).Contents (Elt Ideal))

/-- The rearrangement that sorts by time. -/
def order : Equiv.Perm (Fin 65536) := sortPerm fun p => (x2 (ix1 p) : EReal)

/-- The sorted position list, at a position. -/
theorem v0_apply (p : Fin 65536) : val_main_v0 (F := Ideal) x2 (ix1 p) = BitVec.ofNat 32 (order x2 p).val := by
  exact sort2_snd (n := 65536) (comparator_f32_i32_d0 (F := Ideal)) comparator_eq x2 (val_main_call0_v0 (F := Ideal))
    (fun _ => rfl) p

/-- A place number fits in a signed word. -/
theorem small (p : Fin 65536) : (BitVec.ofNat 32 p.val).toNat < 2 ^ (32 - 1) := by
  have := p.isLt
  rw [BitVec.toNat_ofNat]
  omega

/-- The positions the events are taken at. -/
theorem v6_apply (p : Fin 65536) : val_main_v6 (F := Ideal) x2 (ix2 p 0) = BitVec.ofNat 32 (order x2 p).val := by
  rw [val_main_v6_apply, val_main_v5_apply, val_main_v2_apply]
  have h : idx_main_v6 (ix2 p 0) = ix1 p := by
    funext a
    match a with
    | ⟨0, _⟩ => rfl
  rw [h, v0_apply]
  exact Routing.wrap_of_lt _ _ (small _)

/-- The positions the log hazards are taken at. -/
theorem v13_apply (p : Fin 65536) : val_main_v13 (F := Ideal) x2 (ix2 p 0) = BitVec.ofNat 32 (order x2 p).val := by
  rw [val_main_v13_apply, val_main_v12_apply, val_main_v9_apply]
  have h : idx_main_v13 (ix2 p 0) = ix1 p := by
    funext a
    match a with
    | ⟨0, _⟩ => rfl
  rw [h, v0_apply]
  exact Routing.wrap_of_lt _ _ (small _)

/-- The events in the order of time. -/
theorem v7_apply (p : Fin 65536) : val_main_v7 (F := Ideal) x1 x2 (ix1 p) = x1 (ix1 (order x2 p)) := by
  unfold val_main_v7
  exact take_perm (by decide) gather_S65536_S65536x1_S65536_n_0_n_n_0_1_1 rfl rfl rfl rfl x1 _ (order x2) (v6_apply x2) p

/-- The log hazards in the order of time. -/
theorem v14_apply (p : Fin 65536) : val_main_v14 (F := Ideal) x0 x2 (ix1 p) = x0 (ix1 (order x2 p)) := by
  unfold val_main_v14
  exact take_perm (by decide) gather_S65536_S65536x1_S65536_n_0_n_n_0_1_1 rfl rfl rfl rfl x0 _ (order x2) (v13_apply x2) p

/-- The log hazards in the order of time. -/
def sortedHazards : Fin 65536 → EReal := fun p => x0 (ix1 (order x2 p))

/-- The largest log hazard. -/
theorem v15_apply (i : S_.Idx) : val_main_v15 (F := Ideal) x0 x2 i = largest (sortedHazards x0 x2) := by
  unfold val_main_v15
  rw [Host.reduce_eq_fold]
  have hbot : val_main_cst (F := Ideal) (Shape.Idx.first h_S_) = (⊥ : EReal) := by
    show Ideal.ofBits .f32 0xFF800000#32 = ⊥
    simp [Ideal.ofBits, Ideal.ieee]
  rw [hbot, Finset.filter_true_of_mem fun j _ => funext fun a => a.elim0]
  exact fold_max_rank1 (val_main_v14 (F := Ideal) x0 x2) (sortedHazards x0 x2) (v14_apply x0 x2)

/-- The running sum of the exponentials. -/
theorem v19_apply (p : Fin 65536) :
    val_main_v19 (F := Ideal) x0 x2 (ix1 p) = prefixSum (fun q => val_main_v18 (F := Ideal) x0 x2 (ix1 q)) p := by
  unfold val_main_v19
  have h0 : val_main_call1_call0_v0 (F := Ideal) (Shape.Idx.first h_S_) = (0 : EReal) := Ideal.ofBits_zero_f32
  exact cumsum_apply (m := 65535) rfl _ _ _ _ h0 p

/-- The exponential of a log hazard less the largest. -/
theorem v18_apply (p : Fin 65536) :
    val_main_v18 (F := Ideal) x0 x2 (ix1 p) =
      Ideal.exp (sortedHazards x0 x2 p - largest (sortedHazards x0 x2)) := by
  rw [val_main_v18_apply, val_main_v17_apply, val_main_v16_apply, v14_apply, v15_apply]
  exact exp_ops _ _

/-- One term of the reference's sum. -/
theorem v26_apply (p : Fin 65536) :
    val_main_v26 (F := Ideal) x0 x1 x2 (ix1 p) =
      (sortedHazards x0 x2 p - (Ideal.log (prefixSum (fun q => Ideal.exp
        (sortedHazards x0 x2 q - largest (sortedHazards x0 x2))) p + eps) + largest (sortedHazards x0 x2))) *
        sortedHazards x1 x2 p := by
  rw [val_main_v26_apply, val_main_v25_apply, val_main_v24_apply, val_main_v23_apply, val_main_v22_apply,
    val_main_v21_apply, val_main_v20_apply, v14_apply, v15_apply, v19_apply, v7_apply,
    show (fun q => val_main_v18 (F := Ideal) x0 x2 (ix1 q)) = _ from funext (v18_apply x0 x2)]
  exact term_ops _ _ _ _

/-- The reference's result. -/
theorem result_eq : val_main_v31 (F := Ideal) x0 x1 x2 = fun _ =>
    refLoss (sortedHazards x0 x2) (sortedHazards x1 x2) := by
  funext i
  have h4 : ∀ j : S_.Idx, val_main_cst_4 (F := Ideal) j = (0 : EReal) := fun _ => Ideal.ofBits_zero_f32
  have h5 : ∀ j : S_.Idx, val_main_cst_5 (F := Ideal) j = (0 : EReal) := fun _ => Ideal.ofBits_zero_f32
  rw [val_main_v31_apply, val_main_v28_apply, val_main_v30_apply, val_main_v27_apply, val_main_v29_apply, h4, h5,
    sum_rank1 _ _ (v26_apply x0 x1 x2), sum_rank1 _ (sortedHazards x1 x2) (v7_apply x1 x2)]
  exact quotient_ops _ _

end Cert.Proof.Reference

end
-- ==== Proof.Precondition.lean ====
/- What the precondition says over the extended reals: every log hazard is a real, and of any two entries with the same
   time, either both agree or neither is an event. -/
module

public import proofs.«01_k».proof.Pre_finite_and_ties_agree
public import Idealize.ShloMosaic.PureOps.Ideal.Laws
public import Idealize.ShloMosaic.Lib.ReduceAll
public import Idealize.ShloMosaic.Lib.Affine
public import Idealize.ShloMosaic.Lib.StableHlo.Predicate
public import Idealize.ShloMosaic.Lib.Routing.Ops
public import Idealize.ShloMosaic.Lib.ValueIdx

@[expose] public section

noncomputable section

namespace Cert.Proof.Precondition

open Idealize.ShloMosaic Idealize.ShloMosaic.ValueIdx Cert.Pre_finite_and_ties_agree

/-- The shape relations the precondition's operations take. -/
instance facts : Cert.Pre_finite_and_ties_agree.Facts where
  bcast_S_S65536 := by decide
  reducesTo_S65536_S_d0 := by decide
  h_S_ := by decide
  bcast_S65536_S65536x1_0 := by decide
  bcast_S65536_S1x65536_1 := by decide
  bcast_S65536x1_S65536x65536_0_1 := by decide
  bcast_S1x65536_S65536x65536_0_1 := by decide
  bcast_S_S65536x1 := by decide
  bcast_S_S1x65536 := by decide
  reducesTo_S65536x65536_S_d0_1 := by decide

/-- An extended real whose absolute value is less than infinity is a real. -/
theorem finite_of_abs (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have ht : FloatOps.ofBits (F := Ideal) .f32 0x7F800000#32 = (⊤ : EReal) := by
    show Ideal.ofBits .f32 0x7F800000#32 = ⊤
    simp [Ideal.ofBits, Ideal.ieee]
  rw [ht] at h
  have h' : BitVec.ofBool (decide ((max x (-x) : EReal) < ⊤)) = 1#1 := h
  rw [StableHlo.Predicate.ofBool_eq_one_iff, decide_eq_true_iff, max_lt_iff] at h'
  refine ⟨h'.1.ne, fun hb => ?_⟩
  rw [hb] at h'
  exact h'.2.ne EReal.neg_bot

/-- The comparison for equality holds where the numbers are equal. -/
theorem oeq_iff (x y : EReal) : FloatOps.cmpf (F := Ideal) (φ := .f32) .oeq x y = 1#1 ↔ x = y := by
  show BitVec.ofBool (decide (x = y)) = 1#1 ↔ _
  rw [StableHlo.Predicate.ofBool_eq_one_iff, decide_eq_true_iff]

/-- The comparison for difference holds where the numbers differ. -/
theorem une_iff (x y : EReal) : FloatOps.cmpf (F := Ideal) (φ := .f32) .une x y = 1#1 ↔ x ≠ y := by
  show BitVec.ofBool (decide (x ≠ y)) = 1#1 ↔ _
  rw [StableHlo.Predicate.ofBool_eq_one_iff, decide_eq_true_iff]

/-- A vector spread along rows, at an entry. -/
theorem rows_apply (v : FVec Ideal S65536 .f32) (i j : Fin 65536) :
    broadcastInDim S65536x65536 ![0, 1] Facts.bcast_S65536x1_S65536x65536_0_1
      (broadcastInDim S65536x1 ![0] Facts.bcast_S65536_S65536x1_0 v) (StableHlo.Predicate.ij i j) = v (ix1 i) :=
  (StableHlo.Predicate.bcast_rows _ _ v i j).trans (congrArg v (Routing.ofFin_eq_ix1 i))

/-- A vector spread along columns, at an entry. -/
theorem cols_apply (v : FVec Ideal S65536 .f32) (i j : Fin 65536) :
    broadcastInDim S65536x65536 ![0, 1] Facts.bcast_S1x65536_S65536x65536_0_1
      (broadcastInDim S1x65536 ![1] Facts.bcast_S65536_S1x65536_1 v) (StableHlo.Predicate.ij i j) = v (ix1 j) :=
  (StableHlo.Predicate.bcast_cols _ _ v i j).trans (congrArg v (Routing.ofFin_eq_ix1 j))

/-- Where a vector is zero, spread along rows, at an entry. -/
theorem rows_zero (v : FVec Ideal S65536 .f32) (i j : Fin 65536) :
    broadcastInDim S65536x65536 ![0, 1] Facts.bcast_S65536x1_S65536x65536_0_1
      (cmpf .oeq (broadcastInDim S65536x1 ![0] Facts.bcast_S65536_S65536x1_0 v)
        (broadcastInDim S65536x1 ![] Facts.bcast_S_S65536x1 (constant S_ .f32 0x00000000#32))) (StableHlo.Predicate.ij i j) =
      FloatOps.cmpf .oeq (v (ix1 i)) (FloatOps.ofBits .f32 0x00000000#32) := by
  refine (StableHlo.Predicate.bcast_of_col _ _ i j).trans ?_
  exact congrArg (fun a => FloatOps.cmpf (F := Ideal) (φ := .f32) .oeq a (FloatOps.ofBits .f32 0x00000000#32))
    ((StableHlo.Predicate.bcast_col1 _ v i).trans (congrArg v (Routing.ofFin_eq_ix1 i)))

/-- Where a vector is zero, spread along columns, at an entry. -/
theorem cols_zero (v : FVec Ideal S65536 .f32) (i j : Fin 65536) :
    broadcastInDim S65536x65536 ![0, 1] Facts.bcast_S1x65536_S65536x65536_0_1
      (cmpf .oeq (broadcastInDim S1x65536 ![1] Facts.bcast_S65536_S1x65536_1 v)
        (broadcastInDim S1x65536 ![] Facts.bcast_S_S1x65536 (constant S_ .f32 0x00000000#32))) (StableHlo.Predicate.ij i j) =
      FloatOps.cmpf .oeq (v (ix1 j)) (FloatOps.ofBits .f32 0x00000000#32) := by
  refine (StableHlo.Predicate.bcast_of_row _ _ i j).trans ?_
  exact congrArg (fun a => FloatOps.cmpf (F := Ideal) (φ := .f32) .oeq a (FloatOps.ofBits .f32 0x00000000#32))
    ((StableHlo.Predicate.bcast_row1 _ v j).trans (congrArg v (Routing.ofFin_eq_ix1 j)))

/-- The precondition, read over the extended reals: `y` the log hazards, `e` the events, `t` the times. -/
theorem read (y e t : FVec Ideal S65536 .f32) (h : fn (F := Ideal) y e t = fun _ => 1#1) :
    (∀ p : Fin 65536, (y (ix1 p) : EReal) ≠ ⊤ ∧ (y (ix1 p) : EReal) ≠ ⊥) ∧
      ∀ i j : Fin 65536, (t (ix1 i) : EReal) = t (ix1 j) →
        ((y (ix1 i) : EReal) = y (ix1 j) ∧ (e (ix1 i) : EReal) = e (ix1 j)) ∨
          ((e (ix1 i) : EReal) = 0 ∧ (e (ix1 j) : EReal) = 0) := by
  have h1 := congrFun h (Shape.Idx.first Facts.h_S_)
  unfold fn fn_part1 at h1
  obtain ⟨hfin, htie⟩ := IntOp.andi_eq_one.mp h1
  haveI : Subsingleton S_.Idx := ⟨fun _ _ => funext fun a => a.elim0⟩
  refine ⟨fun p => ?_, fun i j hij => ?_⟩
  · exact finite_of_abs _ (Host.reduce_andi_all _ _ _ _ _ hfin (ix1 p))
  · have hb := Host.reduce_andi_all _ _ _ _ _ htie (StableHlo.Predicate.ij i j)
    have hz : FloatOps.ofBits (F := Ideal) .f32 0x00000000#32 = (0 : EReal) := Ideal.ofBits_zero_f32
    rcases IntOp.ori_eq_one.mp hb with hb | hb
    · rcases IntOp.ori_eq_one.mp hb with hb | hb
      · exfalso
        have := congrArg₂ (FloatOps.cmpf (F := Ideal) (φ := .f32) .une) (rows_apply t i j) (cols_apply t i j)
        exact (une_iff _ _).mp (this.symm.trans hb) hij
      · obtain ⟨h1, h2⟩ := IntOp.andi_eq_one.mp hb
        have e1 := congrArg₂ (FloatOps.cmpf (F := Ideal) (φ := .f32) .oeq) (rows_apply y i j) (cols_apply y i j)
        have e2 := congrArg₂ (FloatOps.cmpf (F := Ideal) (φ := .f32) .oeq) (rows_apply e i j) (cols_apply e i j)
        exact Or.inl ⟨(oeq_iff _ _).mp (e1.symm.trans h1), (oeq_iff _ _).mp (e2.symm.trans h2)⟩
    · obtain ⟨h1, h2⟩ := IntOp.andi_eq_one.mp hb
      have e1 := (oeq_iff _ _).mp ((rows_zero e i j).symm.trans h1)
      have e2 := (oeq_iff _ _).mp ((cols_zero e i j).symm.trans h2)
      rw [hz] at e1 e2
      exact Or.inr ⟨e1, e2⟩

end Cert.Proof.Precondition

end
-- ==== Proof.Assembly.lean ====
/- The kernel's and the reference's results are one value: both are the loss of the entries in an order of rising times,
   and the precondition makes the loss the same along every such order. -/
module

public import proofs.«01_k».proof.Defs
public import proofs.«01_k».proof.Proof.KernelRun
public import proofs.«01_k».proof.Proof.KernelValue
public import proofs.«01_k».proof.Proof.Reference
public import proofs.«01_k».proof.Proof.Precondition

@[expose] public section

noncomputable section

namespace Cert.Proof

open Idealize.ShloMosaic Idealize.SL.Sem Cert.KernelIdeal

/-- The place in the flat argument of the entry at sorting position `p`: its row times 128, plus its column. -/
def flatOf (p : Fin (2 ^ 16)) : Fin (2 ^ 16) := ⟨p.val % 512 * 128 + p.val / 512, by have := p.isLt; omega⟩

/-- The sorting position of the entry at a flat place. -/
def ofFlat (q : Fin (2 ^ 16)) : Fin (2 ^ 16) := ⟨q.val % 128 * 512 + q.val / 128, by have := q.isLt; omega⟩

/-- Sorting positions and flat places correspond one to one. -/
def flatPerm : Equiv.Perm (Fin (2 ^ 16)) :=
  ⟨flatOf, ofFlat,
    fun p => Fin.ext (by
      have := p.isLt
      show (p.val % 512 * 128 + p.val / 512) % 128 * 512 + (p.val % 512 * 128 + p.val / 512) / 128 = p.val
      omega),
    fun q => Fin.ext (by
      have := q.isLt
      show (q.val % 128 * 512 + q.val / 128) % 512 * 128 + (q.val % 128 * 512 + q.val / 128) / 512 = q.val
      omega)⟩

/-- A laid-out argument at the entry of position `p`. -/
theorem laid_entry (x : FVec Ideal S65536 .f32) (p : Fin (2 ^ 16)) : laid x (entry p) = x (ValueIdx.ix1 (flatPerm p)) := by
  refine shapeCast_apply x _ _ _ ?_
  rw [Shape.rowMajor_val_two, Shape.rowMajor_val_one]
  rfl

/-- From arguments the precondition admits, the kernel's loss is the reference's result. -/
theorem value_eq (y e t : FVec Ideal S65536 .f32)
    (h : Cert.Pre_finite_and_ties_agree.fn (F := Ideal) y e t = fun _ => 1#1) :
    (fun _ => kernelOut (laid t) (laid e) (laid y)) = Cert.ReferenceIdeal.Read.val_main_v31 (F := Ideal) y e t := by
  obtain ⟨hfin, hties⟩ := Precondition.read y e t h
  obtain ⟨σ, hσ, hk⟩ := kernelOut_eq (laid t) (laid e) (laid y)
  rw [Reference.result_eq, hk]
  funext _
  simp only [laid_entry] at hσ ⊢
  exact loss_sorted (n := 65536) (by decide) (fun p => t (ValueIdx.ix1 p)) (fun p => y (ValueIdx.ix1 p))
    (fun p => e (ValueIdx.ix1 p)) (σ.trans flatPerm) (Reference.order t) hσ
    (Reference.sortPerm_monotone fun p => (t (ValueIdx.ix1 p) : EReal)) hfin hties

/-- The kernel and the reference, read over the extended reals, end with equal results. -/
theorem algebraic : Cert.algebraic_KernelIdeal_ReferenceIdeal_pre_finite_and_ties_agree := by
  intro m g m' g' hpre hargs
  refine ⟨fun c => fun _ => result m c, run_kernel m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v31_eq, (hargs c).1, (hargs c).2.1, (hargs c).2.2]
  exact (value_eq _ _ _ (hpre c)).symm

end Cert.Proof

end
-- ==== Proof.lean ====
/- The proof of the claims about the Cox loss kernel. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Assembly
public import Idealize.ShloMosaic.Adequacy
public import Idealize.ShloMosaic.Init

@[expose] public section

noncomputable section

namespace Cert.Proof

open Idealize.ShloMosaic Idealize.SL.Sem Cert.Kernel

/-- The kernel, read at bits, runs and leaves its arguments as they were. -/
theorem frame_kernel : Cert.quiescent_Kernel := fun m ρ _ => Cert.Kernel.Gen.frame m ρ

/-- The kernel, read over the extended reals, runs and leaves its arguments as they were. -/
theorem frame_ideal : Cert.quiescent_KernelIdeal := fun m ρ _ => Cert.KernelIdeal.Gen.frame m ρ

/-- The reference runs and leaves its arguments as they were; it names no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every claim: the frames, that the kernel's reading over the extended reals is the kernel's own text, and that it
    computes what the reference computes. -/
theorem claim : Cert.Claim := ⟨Cert.Kernel.Gen.facts, Cert.KernelIdeal.Gen.facts, Cert.ReferenceIdeal.Gen.facts,
  Precondition.facts, frame_kernel, frame_ideal, fun m ρ _ => frame_ideal m ρ trivial, frame_reference,
  fun m ρ _ => frame_reference m ρ trivial, trivial, algebraic⟩

end Cert.Proof

end
